-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_is_strict [hPre_top_is_strict : Cert.Pre_top_is_strict.Facts] (m : (ℓ : Loc Cert.KernelIdeal.nD Cert.KernelIdeal.τ Cert.KernelIdeal.sig) → Buf (Elt Ideal) ℓ) : Prop :=
  ∀ c : Dev Cert.KernelIdeal.nD,
    (Cert.Pre_top_is_strict.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_is_strict [hPre_top_is_strict : Cert.Pre_top_is_strict.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_is_strict.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_top_is_strict [hKernelIdeal : Cert.KernelIdeal.Facts] [hPre_top_is_strict : Cert.Pre_top_is_strict.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_is_strict m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_top_is_strict [hReferenceIdeal : Cert.ReferenceIdeal.Facts] [hPre_top_is_strict : Cert.Pre_top_is_strict.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_is_strict m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_top_is_strict [hKernelIdeal : Cert.KernelIdeal.Facts] [hReferenceIdeal : Cert.ReferenceIdeal.Facts] [hPre_top_is_strict : Cert.Pre_top_is_strict.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_is_strict m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_top_is_strict : Cert.Pre_top_is_strict.Facts),
    quiescent_Kernel (hKernel := hKernel)
    ∧ quiescent_KernelIdeal (hKernelIdeal := hKernelIdeal)
    ∧ quiescent_KernelIdeal_pre_top_is_strict (hKernelIdeal := hKernelIdeal) (hPre_top_is_strict := hPre_top_is_strict)
    ∧ quiescent_ReferenceIdeal (hReferenceIdeal := hReferenceIdeal)
    ∧ quiescent_ReferenceIdeal_pre_top_is_strict (hReferenceIdeal := hReferenceIdeal) (hPre_top_is_strict := hPre_top_is_strict)
    ∧ preserves_Kernel_KernelIdeal
    ∧ algebraic_KernelIdeal_ReferenceIdeal_pre_top_is_strict (hKernelIdeal := hKernelIdeal) (hReferenceIdeal := hReferenceIdeal) (hPre_top_is_strict := hPre_top_is_strict)
-- ==== Pre_top_is_strict.lean ====
abbrev S4x2048 : Shape := ⟨2, ![4, 2048]⟩
abbrev S257x32 : Shape := ⟨2, ![257, 32]⟩
abbrev S32x1 : Shape := ⟨2, ![32, 1]⟩
abbrev S32 : Shape := ⟨1, ![32]⟩
abbrev S32x1x9 : Shape := ⟨3, ![32, 1, 9]⟩
abbrev S32x32 : Shape := ⟨2, ![32, 32]⟩
abbrev S1x32 : Shape := ⟨2, ![1, 32]⟩
abbrev S1 : Shape := ⟨1, ![1]⟩
abbrev S_ : Shape := ⟨0, ![]⟩
abbrev S4x2304 : Shape := ⟨2, ![4, 2304]⟩
abbrev S2048 : Shape := ⟨1, ![2048]⟩
abbrev S2048x1 : Shape := ⟨2, ![2048, 1]⟩
abbrev S256 : Shape := ⟨1, ![256]⟩
abbrev S1x256 : Shape := ⟨2, ![1, 256]⟩
abbrev S2048x256 : Shape := ⟨2, ![2048, 256]⟩
abbrev S2048x256x1 : Shape := ⟨3, ![2048, 256, 1]⟩
abbrev S4x2048x256 : Shape := ⟨3, ![4, 2048, 256]⟩
abbrev S4x2056 : Shape := ⟨2, ![4, 2056]⟩
abbrev S4x1x2048 : Shape := ⟨3, ![4, 1, 2048]⟩
abbrev S32x1x1 : Shape := ⟨3, ![32, 1, 1]⟩
abbrev S1x32x1 : Shape := ⟨3, ![1, 32, 1]⟩
abbrev S4x32x2048 : Shape := ⟨3, ![4, 32, 2048]⟩
abbrev S4x2048x32 : Shape := ⟨3, ![4, 2048, 32]⟩
abbrev S1x1x32 : Shape := ⟨3, ![1, 1, 32]⟩
abbrev S4x2048x256x1 : Shape := ⟨4, ![4, 2048, 256, 1]⟩
abbrev S1x1x1x32 : Shape := ⟨4, ![1, 1, 1, 32]⟩
abbrev S4x2048x256x32 : Shape := ⟨4, ![4, 2048, 256, 32]⟩
abbrev S256x32 : Shape := ⟨2, ![256, 32]⟩
abbrev S1x1x256x32 : Shape := ⟨4, ![1, 1, 256, 32]⟩
abbrev S4x2048x17 : Shape := ⟨3, ![4, 2048, 17]⟩
abbrev S4x2048x16 : Shape := ⟨3, ![4, 2048, 16]⟩
abbrev S4x2048x1 : Shape := ⟨3, ![4, 2048, 1]⟩

class Facts : Prop where
  pads_S4x2048_S4x2304_000_25600 : S4x2048.Pads (![0, 256] : Fin 2 → Nat) ![0, 0] ![0, 0] S4x2304
  h_S_ : 0 < S_.numel
  bcast_S2048_S2048x1_0 : S2048.BroadcastsInDim S2048x1 (![0] : Fin 1 → Fin S2048x1.rank)
  bcast_S256_S1x256_1 : S256.BroadcastsInDim S1x256 (![1] : Fin 1 → Fin S1x256.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S2048x256_S2048x256x1_0_1 : S2048x256.BroadcastsInDim S2048x256x1 (![0, 1] : Fin 2 → Fin S2048x256x1.rank)
  pads_S4x2048_S4x2056_000_800 : S4x2048.Pads (![0, 8] : Fin 2 → Nat) ![0, 0] ![0, 0] S4x2056
  slices_S4x2056_S4x2048_0_0 : S4x2056.Slices ![0, 0] S4x2048
  bcast_S4x2048_S4x1x2048_0_2 : S4x2048.BroadcastsInDim S4x1x2048 (![0, 2] : Fin 2 → Fin S4x1x2048.rank)
  slices_S32x1x9_S32x1x1_0_0_0 : S32x1x9.Slices ![0, 0, 0] S32x1x1
  shapeCasts_S32x1x1_S32 : S32x1x1.ShapeCasts S32
  bcast_S32_S1x32x1_1 : S32.BroadcastsInDim S1x32x1 (![1] : Fin 1 → Fin S1x32x1.rank)
  bcast_S4x1x2048_S4x32x2048_0_1_2 : S4x1x2048.BroadcastsInDim S4x32x2048 (![0, 1, 2] : Fin 3 → Fin S4x32x2048.rank)
  bcast_S1x32x1_S4x32x2048_0_1_2 : S1x32x1.BroadcastsInDim S4x32x2048 (![0, 1, 2] : Fin 3 → Fin S4x32x2048.rank)
  bcast_S_S4x32x2048 : S_.BroadcastsInDim S4x32x2048 (![] : Fin 0 → Fin S4x32x2048.rank)
  slices_S4x2056_S4x2048_0_1 : S4x2056.Slices ![0, 1] S4x2048
  slices_S32x1x9_S32x1x1_0_0_1 : S32x1x9.Slices ![0, 0, 1] S32x1x1
  slices_S4x2056_S4x2048_0_2 : S4x2056.Slices ![0, 2] S4x2048
  slices_S32x1x9_S32x1x1_0_0_2 : S32x1x9.Slices ![0, 0, 2] S32x1x1
  slices_S4x2056_S4x2048_0_3 : S4x2056.Slices ![0, 3] S4x2048
  slices_S32x1x9_S32x1x1_0_0_3 : S32x1x9.Slices ![0, 0, 3] S32x1x1
  slices_S4x2056_S4x2048_0_4 : S4x2056.Slices ![0, 4] S4x2048
  slices_S32x1x9_S32x1x1_0_0_4 : S32x1x9.Slices ![0, 0, 4] S32x1x1
  slices_S4x2056_S4x2048_0_5 : S4x2056.Slices ![0, 5] S4x2048
  slices_S32x1x9_S32x1x1_0_0_5 : S32x1x9.Slices ![0, 0, 5] S32x1x1
  slices_S4x2056_S4x2048_0_6 : S4x2056.Slices ![0, 6] S4x2048
  slices_S32x1x9_S32x1x1_0_0_6 : S32x1x9.Slices ![0, 0, 6] S32x1x1
  slices_S4x2056_S4x2048_0_7 : S4x2056.Slices ![0, 7] S4x2048
  slices_S32x1x9_S32x1x1_0_0_7 : S32x1x9.Slices ![0, 0, 7] S32x1x1
  slices_S4x2056_S4x2048_0_8 : S4x2056.Slices ![0, 8] S4x2048
  slices_S32x1x9_S32x1x1_0_0_8 : S32x1x9.Slices ![0, 0, 8] S32x1x1
  transposes_S4x32x2048_S4x2048x32_0_2_1 : S4x32x2048.Transposes [0, 2, 1] S4x2048x32
  transposes_S32x32_S32x32_1_0 : S32x32.Transposes [1, 0] S32x32
  bcast_S32_S1x1x32_2 : S32.BroadcastsInDim S1x1x32 (![2] : Fin 1 → Fin S1x1x32.rank)
  bcast_S1x1x32_S4x2048x32_0_1_2 : S1x1x32.BroadcastsInDim S4x2048x32 (![0, 1, 2] : Fin 3 → Fin S4x2048x32.rank)
  bcast_S4x2048x256_S4x2048x256x1_0_1_2 : S4x2048x256.BroadcastsInDim S4x2048x256x1 (![0, 1, 2] : Fin 3 → Fin S4x2048x256x1.rank)
  shapeCasts_S32x1_S32 : S32x1.ShapeCasts S32
  bcast_S32_S1x1x1x32_3 : S32.BroadcastsInDim S1x1x1x32 (![3] : Fin 1 → Fin S1x1x1x32.rank)
  bcast_S4x2048x256x1_S4x2048x256x32_0_1_2_3 : S4x2048x256x1.BroadcastsInDim S4x2048x256x32 (![0, 1, 2, 3] : Fin 4 → Fin S4x2048x256x32.rank)
  bcast_S1x1x1x32_S4x2048x256x32_0_1_2_3 : S1x1x1x32.BroadcastsInDim S4x2048x256x32 (![0, 1, 2, 3] : Fin 4 → Fin S4x2048x256x32.rank)
  slices_S257x32_S256x32_1_0 : S257x32.Slices ![1, 0] S256x32
  bcast_S256x32_S1x1x256x32_2_3 : S256x32.BroadcastsInDim S1x1x256x32 (![2, 3] : Fin 2 → Fin S1x1x256x32.rank)
  bcast_S1x1x256x32_S4x2048x256x32_0_1_2_3 : S1x1x256x32.BroadcastsInDim S4x2048x256x32 (![0, 1, 2, 3] : Fin 4 → Fin S4x2048x256x32.rank)
  sliceFits_S4x2048x256_S4x2048x17 : S4x2048x256.Slices (fun _ => 0) S4x2048x17
  slices_S4x2048x17_S4x2048x16_0_0_0 : S4x2048x17.Slices ![0, 0, 0] S4x2048x16
  slices_S4x2048x17_S4x2048x16_0_0_1 : S4x2048x17.Slices ![0, 0, 1] S4x2048x16
  slices_S4x2048x17_S4x2048x1_0_0_0 : S4x2048x17.Slices ![0, 0, 0] S4x2048x1
  bcast_S_S4x2048x1 : S_.BroadcastsInDim S4x2048x1 (![] : Fin 0 → Fin S4x2048x1.rank)
  bcast_S4x2048x1_S4x2048x16_0_1_2 : S4x2048x1.BroadcastsInDim S4x2048x16 (![0, 1, 2] : Fin 3 → Fin S4x2048x16.rank)
  gather_S4x2304_S2048x256x1_S4x2048x256_0_1_n_n_1_2_41_wf : GatherDims.WF S4x2304 S2048x256x1 S4x2048x256 [0] [1] [] [1] [] 2 ![4, 1]
  dot_S4x2048x32_S32x32_S4x2048x32_2_0_01_1_n_n_wf : DotDims.WF S4x2048x32 S32x32 S4x2048x32 [2] [0] [0, 1] [1] [] []
  dot_S4x2048x256x32_S32x32_S4x2048x256x32_3_0_012_1_n_n_wf : DotDims.WF S4x2048x256x32 S32x32 S4x2048x256x32 [3] [0] [0, 1, 2] [1] [] []
  dot_S4x2048x32_S4x2048x256x32_S4x2048x256_2_3_n_2_01_01_wf : DotDims.WF S4x2048x32 S4x2048x256x32 S4x2048x256 [2] [3] [] [2] [0, 1] [0, 1]

variable [Facts]

def gather_S4x2304_S2048x256x1_S4x2048x256_0_1_n_n_1_2_41 : GatherDims S4x2304 S2048x256x1 S4x2048x256 where
  offsetDims := [0]
  collapsedSliceDims := [1]
  operandBatchingDims := []
  startIndicesBatchingDims := []
  startIndexMap := [1]
  indexVectorDim := 2
  sliceSizes := ![4, 1]
  wf := gather_S4x2304_S2048x256x1_S4x2048x256_0_1_n_n_1_2_41_wf
def dot_S4x2048x32_S32x32_S4x2048x32_2_0_01_1_n_n : DotDims S4x2048x32 S32x32 S4x2048x32 where
  lhsContracting := [2]
  rhsContracting := [0]
  lhsNonContracting := [0, 1]
  rhsNonContracting := [1]
  lhsBatch := []
  rhsBatch := []
  wf := dot_S4x2048x32_S32x32_S4x2048x32_2_0_01_1_n_n_wf
def dot_S4x2048x256x32_S32x32_S4x2048x256x32_3_0_012_1_n_n : DotDims S4x2048x256x32 S32x32 S4x2048x256x32 where
  lhsContracting := [3]
  rhsContracting := [0]
  lhsNonContracting := [0, 1, 2]
  rhsNonContracting := [1]
  lhsBatch := []
  rhsBatch := []
  wf := dot_S4x2048x256x32_S32x32_S4x2048x256x32_3_0_012_1_n_n_wf
def dot_S4x2048x32_S4x2048x256x32_S4x2048x256_2_3_n_2_01_01 : DotDims S4x2048x32 S4x2048x256x32 S4x2048x256 where
  lhsContracting := [2]
  rhsContracting := [3]
  lhsNonContracting := []
  rhsNonContracting := [2]
  lhsBatch := [0, 1]
  rhsBatch := [0, 1]
  wf := dot_S4x2048x32_S4x2048x256x32_S4x2048x256_2_3_n_2_01_01_wf
def fn_part5 {F : FTy → Type} [FloatOps F] (main_arg1 : FVec F S257x32 .f32) (main_arg3 : FVec F S32 .f32) (main_arg8 : FVec F S32x32 .f32) (main_arg9 : FVec F S32x32 .f32) (main_v108 : FVec F S4x2048x32 .f32) (main_v112 : FVec F S4x2048x256x32 .f32) (main_v113 : FVec F S4x2048x256x32 .f32) : IVec S4x2048x16 1 :=
  let main_v114 : FVec F S4x2048x256x32 .f32 := mulf main_v112 main_v113
  let main_v115 : FVec F S1x1x1x32 .f32 := broadcastInDim S1x1x1x32 ![3] bcast_S32_S1x1x1x32_3 main_arg3
  let main_v116 : FVec F S4x2048x256x32 .f32 := broadcastInDim S4x2048x256x32 ![0, 1, 2, 3] bcast_S1x1x1x32_S4x2048x256x32_0_1_2_3 main_v115
  let main_v117 : FVec F S4x2048x256x32 .f32 := addf main_v114 main_v116
  let main_v118 : FVec F S256x32 .f32 := (extractStridedSlice S256x32 ![1, 0] · slices_S257x32_S256x32_1_0) main_arg1
  let main_v119 : FVec F S1x1x256x32 .f32 := broadcastInDim S1x1x256x32 ![2, 3] bcast_S256x32_S1x1x256x32_2_3 main_v118
  let main_v120 : FVec F S4x2048x256x32 .f32 := broadcastInDim S4x2048x256x32 ![0, 1, 2, 3] bcast_S1x1x256x32_S4x2048x256x32_0_1_2_3 main_v119
  let main_v121 : FVec F S4x2048x256x32 .f32 := addf main_v117 main_v120
  let main_v122 : FVec F S32x32 .f32 := (transpose S32x32 [1, 0] · transposes_S32x32_S32x32_1_0) main_arg8
  let main_v123 : FVec F S4x2048x32 .f32 := (fun l r => Host.dotGeneral dot_S4x2048x32_S32x32_S4x2048x32_2_0_01_1_n_n none l r) main_v108 main_v122
  let main_v124 : FVec F S32x32 .f32 := (transpose S32x32 [1, 0] · transposes_S32x32_S32x32_1_0) main_arg9
  let main_v125 : FVec F S4x2048x256x32 .f32 := (fun l r => Host.dotGeneral dot_S4x2048x256x32_S32x32_S4x2048x256x32_3_0_012_1_n_n none l r) main_v121 main_v124
  let main_v126 : FVec F S4x2048x256 .f32 := (fun l r => Host.dotGeneral dot_S4x2048x32_S4x2048x256x32_S4x2048x256_2_3_n_2_01_01 none l r) main_v123 main_v125
  let main_values : FVec F S4x2048x17 .f32 := (fun x => (Host.topK S4x2048x17 2 (FloatOps.cmpfTotal .gt) x sliceFits_S4x2048x256_S4x2048x17).1) main_v126
  let main_indices : IVec S4x2048x17 32 := (fun x => (Host.topK S4x2048x17 2 (FloatOps.cmpfTotal .gt) x sliceFits_S4x2048x256_S4x2048x17).2) main_v126
  let main_v127 : FVec F S4x2048x16 .f32 := (extractStridedSlice S4x2048x16 ![0, 0, 0] · slices_S4x2048x17_S4x2048x16_0_0_0) main_values
  let main_v128 : FVec F S4x2048x16 .f32 := (extractStridedSlice S4x2048x16 ![0, 0, 1] · slices_S4x2048x17_S4x2048x16_0_0_1) main_values
  let main_v129 : IVec S4x2048x16 1 := cmpf .ogt main_v127 main_v128
  let main_v130 : FVec F S4x2048x1 .f32 := (extractStridedSlice S4x2048x1 ![0, 0, 0] · slices_S4x2048x17_S4x2048x1_0_0_0) main_values
  let main_cst_4 : FVec F S_ .f32 := constant S_ .f32 0x7F800000#32
  let main_v131 : FVec F S4x2048x1 .f32 := broadcastInDim S4x2048x1 ![] bcast_S_S4x2048x1 main_cst_4
  let main_v132 : IVec S4x2048x1 1 := cmpf .olt main_v130 main_v131
  let main_v133 : IVec S4x2048x16 1 := broadcastInDim S4x2048x16 ![0, 1, 2] bcast_S4x2048x1_S4x2048x16_0_1_2 main_v132
  let main_v134 : IVec S4x2048x16 1 := andi main_v129 main_v133
  main_v134

def fn_part4 {F : FTy → Type} [FloatOps F] (main_arg1 : FVec F S257x32 .f32) (main_arg2 : FVec F S32x1 .f32) (main_arg3 : FVec F S32 .f32) (main_arg4 : FVec F S32x1x9 .f32) (main_arg5 : FVec F S32 .f32) (main_arg6 : FVec F S32x32 .f32) (main_arg7 : FVec F S32 .f32) (main_arg8 : FVec F S32x32 .f32) (main_arg9 : FVec F S32x32 .f32) (main_v16 : FVec F S4x2048x256 .f32) (main_v17 : FVec F S4x2056 .f32) (main_v81 : FVec F S4x32x2048 .f32) (main_v89 : FVec F S4x32x2048 .f32) : IVec S4x2048x16 1 :=
  let main_v90 : FVec F S4x32x2048 .f32 := addf main_v81 main_v89
  let main_v91 : FVec F S4x2048 .f32 := (extractStridedSlice S4x2048 ![0, 8] · slices_S4x2056_S4x2048_0_8) main_v17
  let main_v92 : FVec F S4x1x2048 .f32 := broadcastInDim S4x1x2048 ![0, 2] bcast_S4x2048_S4x1x2048_0_2 main_v91
  let main_v93 : FVec F S32x1x1 .f32 := (extractStridedSlice S32x1x1 ![0, 0, 8] · slices_S32x1x9_S32x1x1_0_0_8) main_arg4
  let main_v94 : FVec F S32 .f32 := shapeCast S32 main_v93 shapeCasts_S32x1x1_S32
  let main_v95 : FVec F S1x32x1 .f32 := broadcastInDim S1x32x1 ![1] bcast_S32_S1x32x1_1 main_v94
  let main_v96 : FVec F S4x32x2048 .f32 := broadcastInDim S4x32x2048 ![0, 1, 2] bcast_S4x1x2048_S4x32x2048_0_1_2 main_v92
  let main_v97 : FVec F S4x32x2048 .f32 := broadcastInDim S4x32x2048 ![0, 1, 2] bcast_S1x32x1_S4x32x2048_0_1_2 main_v95
  let main_v98 : FVec F S4x32x2048 .f32 := mulf main_v96 main_v97
  let main_v99 : FVec F S4x32x2048 .f32 := addf main_v90 main_v98
  let main_v100 : FVec F S1x32x1 .f32 := broadcastInDim S1x32x1 ![1] bcast_S32_S1x32x1_1 main_arg5
  let main_v101 : FVec F S4x32x2048 .f32 := broadcastInDim S4x32x2048 ![0, 1, 2] bcast_S1x32x1_S4x32x2048_0_1_2 main_v100
  let main_v102 : FVec F S4x32x2048 .f32 := addf main_v99 main_v101
  let main_v103 : FVec F S4x2048x32 .f32 := (transpose S4x2048x32 [0, 2, 1] · transposes_S4x32x2048_S4x2048x32_0_2_1) main_v102
  let main_v104 : FVec F S32x32 .f32 := (transpose S32x32 [1, 0] · transposes_S32x32_S32x32_1_0) main_arg6
  let main_v105 : FVec F S4x2048x32 .f32 := (fun l r => Host.dotGeneral dot_S4x2048x32_S32x32_S4x2048x32_2_0_01_1_n_n none l r) main_v103 main_v104
  let main_v106 : FVec F S1x1x32 .f32 := broadcastInDim S1x1x32 ![2] bcast_S32_S1x1x32_2 main_arg7
  let main_v107 : FVec F S4x2048x32 .f32 := broadcastInDim S4x2048x32 ![0, 1, 2] bcast_S1x1x32_S4x2048x32_0_1_2 main_v106
  let main_v108 : FVec F S4x2048x32 .f32 := addf main_v105 main_v107
  let main_v109 : FVec F S4x2048x256x1 .f32 := broadcastInDim S4x2048x256x1 ![0, 1, 2] bcast_S4x2048x256_S4x2048x256x1_0_1_2 main_v16
  let main_v110 : FVec F S32 .f32 := shapeCast S32 main_arg2 shapeCasts_S32x1_S32
  let main_v111 : FVec F S1x1x1x32 .f32 := broadcastInDim S1x1x1x32 ![3] bcast_S32_S1x1x1x32_3 main_v110
  let main_v112 : FVec F S4x2048x256x32 .f32 := broadcastInDim S4x2048x256x32 ![0, 1, 2, 3] bcast_S4x2048x256x1_S4x2048x256x32_0_1_2_3 main_v109
  let main_v113 : FVec F S4x2048x256x32 .f32 := broadcastInDim S4x2048x256x32 ![0, 1, 2, 3] bcast_S1x1x1x32_S4x2048x256x32_0_1_2_3 main_v111
  fn_part5 (F := F) main_arg1 main_arg3 main_arg8 main_arg9 main_v108 main_v112 main_v113

def fn_part3 {F : FTy → Type} [FloatOps F] (main_arg1 : FVec F S257x32 .f32) (main_arg2 : FVec F S32x1 .f32) (main_arg3 : FVec F S32 .f32) (main_arg4 : FVec F S32x1x9 .f32) (main_arg5 : FVec F S32 .f32) (main_arg6 : FVec F S32x32 .f32) (main_arg7 : FVec F S32 .f32) (main_arg8 : FVec F S32x32 .f32) (main_arg9 : FVec F S32x32 .f32) (main_v16 : FVec F S4x2048x256 .f32) (main_v17 : FVec F S4x2056 .f32) (main_v63 : FVec F S4x32x2048 .f32) (main_v65 : FVec F S4x1x2048 .f32) : IVec S4x2048x16 1 :=
  let main_v66 : FVec F S32x1x1 .f32 := (extractStridedSlice S32x1x1 ![0, 0, 5] · slices_S32x1x9_S32x1x1_0_0_5) main_arg4
  let main_v67 : FVec F S32 .f32 := shapeCast S32 main_v66 shapeCasts_S32x1x1_S32
  let main_v68 : FVec F S1x32x1 .f32 := broadcastInDim S1x32x1 ![1] bcast_S32_S1x32x1_1 main_v67
  let main_v69 : FVec F S4x32x2048 .f32 := broadcastInDim S4x32x2048 ![0, 1, 2] bcast_S4x1x2048_S4x32x2048_0_1_2 main_v65
  let main_v70 : FVec F S4x32x2048 .f32 := broadcastInDim S4x32x2048 ![0, 1, 2] bcast_S1x32x1_S4x32x2048_0_1_2 main_v68
  let main_v71 : FVec F S4x32x2048 .f32 := mulf main_v69 main_v70
  let main_v72 : FVec F S4x32x2048 .f32 := addf main_v63 main_v71
  let main_v73 : FVec F S4x2048 .f32 := (extractStridedSlice S4x2048 ![0, 6] · slices_S4x2056_S4x2048_0_6) main_v17
  let main_v74 : FVec F S4x1x2048 .f32 := broadcastInDim S4x1x2048 ![0, 2] bcast_S4x2048_S4x1x2048_0_2 main_v73
  let main_v75 : FVec F S32x1x1 .f32 := (extractStridedSlice S32x1x1 ![0, 0, 6] · slices_S32x1x9_S32x1x1_0_0_6) main_arg4
  let main_v76 : FVec F S32 .f32 := shapeCast S32 main_v75 shapeCasts_S32x1x1_S32
  let main_v77 : FVec F S1x32x1 .f32 := broadcastInDim S1x32x1 ![1] bcast_S32_S1x32x1_1 main_v76
  let main_v78 : FVec F S4x32x2048 .f32 := broadcastInDim S4x32x2048 ![0, 1, 2] bcast_S4x1x2048_S4x32x2048_0_1_2 main_v74
  let main_v79 : FVec F S4x32x2048 .f32 := broadcastInDim S4x32x2048 ![0, 1, 2] bcast_S1x32x1_S4x32x2048_0_1_2 main_v77
  let main_v80 : FVec F S4x32x2048 .f32 := mulf main_v78 main_v79
  let main_v81 : FVec F S4x32x2048 .f32 := addf main_v72 main_v80
  let main_v82 : FVec F S4x2048 .f32 := (extractStridedSlice S4x2048 ![0, 7] · slices_S4x2056_S4x2048_0_7) main_v17
  let main_v83 : FVec F S4x1x2048 .f32 := broadcastInDim S4x1x2048 ![0, 2] bcast_S4x2048_S4x1x2048_0_2 main_v82
  let main_v84 : FVec F S32x1x1 .f32 := (extractStridedSlice S32x1x1 ![0, 0, 7] · slices_S32x1x9_S32x1x1_0_0_7) main_arg4
  let main_v85 : FVec F S32 .f32 := shapeCast S32 main_v84 shapeCasts_S32x1x1_S32
  let main_v86 : FVec F S1x32x1 .f32 := broadcastInDim S1x32x1 ![1] bcast_S32_S1x32x1_1 main_v85
  let main_v87 : FVec F S4x32x2048 .f32 := broadcastInDim S4x32x2048 ![0, 1, 2] bcast_S4x1x2048_S4x32x2048_0_1_2 main_v83
  let main_v88 : FVec F S4x32x2048 .f32 := broadcastInDim S4x32x2048 ![0, 1, 2] bcast_S1x32x1_S4x32x2048_0_1_2 main_v86
  let main_v89 : FVec F S4x32x2048 .f32 := mulf main_v87 main_v88
  fn_part4 (F := F) main_arg1 main_arg2 main_arg3 main_arg4 main_arg5 main_arg6 main_arg7 main_arg8 main_arg9 main_v16 main_v17 main_v81 main_v89

def fn_part2 {F : FTy → Type} [FloatOps F] (main_arg1 : FVec F S257x32 .f32) (main_arg2 : FVec F S32x1 .f32) (main_arg3 : FVec F S32 .f32) (main_arg4 : FVec F S32x1x9 .f32) (main_arg5 : FVec F S32 .f32) (main_arg6 : FVec F S32x32 .f32) (main_arg7 : FVec F S32 .f32) (main_arg8 : FVec F S32x32 .f32) (main_arg9 : FVec F S32x32 .f32) (main_v16 : FVec F S4x2048x256 .f32) (main_v17 : FVec F S4x2056 .f32) (main_v36 : FVec F S4x32x2048 .f32) (main_v38 : FVec F S4x1x2048 .f32) (main_v41 : FVec F S1x32x1 .f32) : IVec S4x2048x16 1 :=
  let main_v42 : FVec F S4x32x2048 .f32 := broadcastInDim S4x32x2048 ![0, 1, 2] bcast_S4x1x2048_S4x32x2048_0_1_2 main_v38
  let main_v43 : FVec F S4x32x2048 .f32 := broadcastInDim S4x32x2048 ![0, 1, 2] bcast_S1x32x1_S4x32x2048_0_1_2 main_v41
  let main_v44 : FVec F S4x32x2048 .f32 := mulf main_v42 main_v43
  let main_v45 : FVec F S4x32x2048 .f32 := addf main_v36 main_v44
  let main_v46 : FVec F S4x2048 .f32 := (extractStridedSlice S4x2048 ![0, 3] · slices_S4x2056_S4x2048_0_3) main_v17
  let main_v47 : FVec F S4x1x2048 .f32 := broadcastInDim S4x1x2048 ![0, 2] bcast_S4x2048_S4x1x2048_0_2 main_v46
  let main_v48 : FVec F S32x1x1 .f32 := (extractStridedSlice S32x1x1 ![0, 0, 3] · slices_S32x1x9_S32x1x1_0_0_3) main_arg4
  let main_v49 : FVec F S32 .f32 := shapeCast S32 main_v48 shapeCasts_S32x1x1_S32
  let main_v50 : FVec F S1x32x1 .f32 := broadcastInDim S1x32x1 ![1] bcast_S32_S1x32x1_1 main_v49
  let main_v51 : FVec F S4x32x2048 .f32 := broadcastInDim S4x32x2048 ![0, 1, 2] bcast_S4x1x2048_S4x32x2048_0_1_2 main_v47
  let main_v52 : FVec F S4x32x2048 .f32 := broadcastInDim S4x32x2048 ![0, 1, 2] bcast_S1x32x1_S4x32x2048_0_1_2 main_v50
  let main_v53 : FVec F S4x32x2048 .f32 := mulf main_v51 main_v52
  let main_v54 : FVec F S4x32x2048 .f32 := addf main_v45 main_v53
  let main_v55 : FVec F S4x2048 .f32 := (extractStridedSlice S4x2048 ![0, 4] · slices_S4x2056_S4x2048_0_4) main_v17
  let main_v56 : FVec F S4x1x2048 .f32 := broadcastInDim S4x1x2048 ![0, 2] bcast_S4x2048_S4x1x2048_0_2 main_v55
  let main_v57 : FVec F S32x1x1 .f32 := (extractStridedSlice S32x1x1 ![0, 0, 4] · slices_S32x1x9_S32x1x1_0_0_4) main_arg4
  let main_v58 : FVec F S32 .f32 := shapeCast S32 main_v57 shapeCasts_S32x1x1_S32
  let main_v59 : FVec F S1x32x1 .f32 := broadcastInDim S1x32x1 ![1] bcast_S32_S1x32x1_1 main_v58
  let main_v60 : FVec F S4x32x2048 .f32 := broadcastInDim S4x32x2048 ![0, 1, 2] bcast_S4x1x2048_S4x32x2048_0_1_2 main_v56
  let main_v61 : FVec F S4x32x2048 .f32 := broadcastInDim S4x32x2048 ![0, 1, 2] bcast_S1x32x1_S4x32x2048_0_1_2 main_v59
  let main_v62 : FVec F S4x32x2048 .f32 := mulf main_v60 main_v61
  let main_v63 : FVec F S4x32x2048 .f32 := addf main_v54 main_v62
  let main_v64 : FVec F S4x2048 .f32 := (extractStridedSlice S4x2048 ![0, 5] · slices_S4x2056_S4x2048_0_5) main_v17
  let main_v65 : FVec F S4x1x2048 .f32 := broadcastInDim S4x1x2048 ![0, 2] bcast_S4x2048_S4x1x2048_0_2 main_v64
  fn_part3 (F := F) main_arg1 main_arg2 main_arg3 main_arg4 main_arg5 main_arg6 main_arg7 main_arg8 main_arg9 main_v16 main_v17 main_v63 main_v65

def fn_part1 {F : FTy → Type} [FloatOps F] (main_arg1 : FVec F S257x32 .f32) (main_arg2 : FVec F S32x1 .f32) (main_arg3 : FVec F S32 .f32) (main_arg4 : FVec F S32x1x9 .f32) (main_arg5 : FVec F S32 .f32) (main_arg6 : FVec F S32x32 .f32) (main_arg7 : FVec F S32 .f32) (main_arg8 : FVec F S32x32 .f32) (main_arg9 : FVec F S32x32 .f32) (main_v16 : FVec F S4x2048x256 .f32) (main_v17 : FVec F S4x2056 .f32) (main_v18 : FVec F S4x2048 .f32) : IVec S4x2048x16 1 :=
  let main_v19 : FVec F S4x1x2048 .f32 := broadcastInDim S4x1x2048 ![0, 2] bcast_S4x2048_S4x1x2048_0_2 main_v18
  let main_v20 : FVec F S32x1x1 .f32 := (extractStridedSlice S32x1x1 ![0, 0, 0] · slices_S32x1x9_S32x1x1_0_0_0) main_arg4
  let main_v21 : FVec F S32 .f32 := shapeCast S32 main_v20 shapeCasts_S32x1x1_S32
  let main_v22 : FVec F S1x32x1 .f32 := broadcastInDim S1x32x1 ![1] bcast_S32_S1x32x1_1 main_v21
  let main_v23 : FVec F S4x32x2048 .f32 := broadcastInDim S4x32x2048 ![0, 1, 2] bcast_S4x1x2048_S4x32x2048_0_1_2 main_v19
  let main_v24 : FVec F S4x32x2048 .f32 := broadcastInDim S4x32x2048 ![0, 1, 2] bcast_S1x32x1_S4x32x2048_0_1_2 main_v22
  let main_v25 : FVec F S4x32x2048 .f32 := mulf main_v23 main_v24
  let main_cst_3 : FVec F S_ .f32 := constant S_ .f32 0x00000000#32
  let main_v26 : FVec F S4x32x2048 .f32 := broadcastInDim S4x32x2048 ![] bcast_S_S4x32x2048 main_cst_3
  let main_v27 : FVec F S4x32x2048 .f32 := addf main_v26 main_v25
  let main_v28 : FVec F S4x2048 .f32 := (extractStridedSlice S4x2048 ![0, 1] · slices_S4x2056_S4x2048_0_1) main_v17
  let main_v29 : FVec F S4x1x2048 .f32 := broadcastInDim S4x1x2048 ![0, 2] bcast_S4x2048_S4x1x2048_0_2 main_v28
  let main_v30 : FVec F S32x1x1 .f32 := (extractStridedSlice S32x1x1 ![0, 0, 1] · slices_S32x1x9_S32x1x1_0_0_1) main_arg4
  let main_v31 : FVec F S32 .f32 := shapeCast S32 main_v30 shapeCasts_S32x1x1_S32
  let main_v32 : FVec F S1x32x1 .f32 := broadcastInDim S1x32x1 ![1] bcast_S32_S1x32x1_1 main_v31
  let main_v33 : FVec F S4x32x2048 .f32 := broadcastInDim S4x32x2048 ![0, 1, 2] bcast_S4x1x2048_S4x32x2048_0_1_2 main_v29
  let main_v34 : FVec F S4x32x2048 .f32 := broadcastInDim S4x32x2048 ![0, 1, 2] bcast_S1x32x1_S4x32x2048_0_1_2 main_v32
  let main_v35 : FVec F S4x32x2048 .f32 := mulf main_v33 main_v34
  let main_v36 : FVec F S4x32x2048 .f32 := addf main_v27 main_v35
  let main_v37 : FVec F S4x2048 .f32 := (extractStridedSlice S4x2048 ![0, 2] · slices_S4x2056_S4x2048_0_2) main_v17
  let main_v38 : FVec F S4x1x2048 .f32 := broadcastInDim S4x1x2048 ![0, 2] bcast_S4x2048_S4x1x2048_0_2 main_v37
  let main_v39 : FVec F S32x1x1 .f32 := (extractStridedSlice S32x1x1 ![0, 0, 2] · slices_S32x1x9_S32x1x1_0_0_2) main_arg4
  let main_v40 : FVec F S32 .f32 := shapeCast S32 main_v39 shapeCasts_S32x1x1_S32
  let main_v41 : FVec F S1x32x1 .f32 := broadcastInDim S1x32x1 ![1] bcast_S32_S1x32x1_1 main_v40
  fn_part2 (F := F) main_arg1 main_arg2 main_arg3 main_arg4 main_arg5 main_arg6 main_arg7 main_arg8 main_arg9 main_v16 main_v17 main_v36 main_v38 main_v41

def fn {F : FTy → Type} [FloatOps F] (main_arg0 : FVec F S4x2048 .f32) (main_arg1 : FVec F S257x32 .f32) (main_arg2 : FVec F S32x1 .f32) (main_arg3 : FVec F S32 .f32) (main_arg4 : FVec F S32x1x9 .f32) (main_arg5 : FVec F S32 .f32) (main_arg6 : FVec F S32x32 .f32) (main_arg7 : FVec F S32 .f32) (main_arg8 : FVec F S32x32 .f32) (main_arg9 : FVec F S32x32 .f32) (main_arg10 : FVec F S1x32 .f32) (main_arg11 : FVec F S1 .f32) : IVec S4x2048x16 1 :=
  let main_cst : FVec F S_ .f32 := constant S_ .f32 0x00000000#32
  let main_v0 : FVec F S4x2304 .f32 := (fun x v => pad S4x2304 ![0, 256] ![0, 0] ![0, 0] x v pads_S4x2048_S4x2304_000_25600 h_S_) main_arg0 main_cst
  let main_v1 : IVec S2048 32 := iotaInDim S2048 32 0
  let main_v2 : IVec S2048x1 32 := broadcastInDim S2048x1 ![0] bcast_S2048_S2048x1_0 main_v1
  let main_v3 : IVec S256 32 := iotaInDim S256 32 0
  let main_v4 : IVec S1x256 32 := broadcastInDim S1x256 ![1] bcast_S256_S1x256_1 main_v3
  let main_c : IVec S_ 32 := constantI S_ 32 255#32
  let main_v5 : IVec S2048x1 32 := broadcastInDim S2048x1 ![] bcast_S_S2048x1 main_c
  let main_v6 : IVec S2048x1 32 := addi main_v5 main_v2
  let main_v7 : IVec S2048x256 32 := broadcastInDim S2048x256 ![0, 1] bcast_S2048x1_S2048x256_0_1 main_v6
  let main_v8 : IVec S2048x256 32 := broadcastInDim S2048x256 ![0, 1] bcast_S1x256_S2048x256_0_1 main_v4
  let main_v9 : IVec S2048x256 32 := subi main_v7 main_v8
  let main_c_0 : IVec S_ 32 := constantI S_ 32 0#32
  let main_v10 : IVec S2048x256 32 := broadcastInDim S2048x256 ![] bcast_S_S2048x256 main_c_0
  let main_v11 : IVec S2048x256 1 := cmpi .slt main_v9 main_v10
  let main_c_1 : IVec S_ 32 := constantI S_ 32 2304#32
  let main_v12 : IVec S2048x256 32 := broadcastInDim S2048x256 ![] bcast_S_S2048x256 main_c_1
  let main_v13 : IVec S2048x256 32 := addi main_v9 main_v12
  let main_v14 : IVec S2048x256 32 := select main_v11 main_v13 main_v9
  let main_v15 : IVec S2048x256x1 32 := broadcastInDim S2048x256x1 ![0, 1] bcast_S2048x256_S2048x256x1_0_1 main_v14
  let main_v16 : FVec F S4x2048x256 .f32 := (fun x i => Host.gather gather_S4x2304_S2048x256x1_S4x2048x256_0_1_n_n_1_2_41 x i) main_v0 main_v15
  let main_cst_2 : FVec F S_ .f32 := constant S_ .f32 0x00000000#32
  let main_v17 : FVec F S4x2056 .f32 := (fun x v => pad S4x2056 ![0, 8] ![0, 0] ![0, 0] x v pads_S4x2048_S4x2056_000_800 h_S_) main_arg0 main_cst_2
  let main_v18 : FVec F S4x2048 .f32 := (extractStridedSlice S4x2048 ![0, 0] · slices_S4x2056_S4x2048_0_0) main_v17
  fn_part1 (F := F) main_arg1 main_arg2 main_arg3 main_arg4 main_arg5 main_arg6 main_arg7 main_arg8 main_arg9 main_v16 main_v17 main_v18
-- ==== Kernel.lean ====
abbrev S4x2048 : Shape := ⟨2, ![4, 2048]⟩
abbrev S257x32 : Shape := ⟨2, ![257, 32]⟩
abbrev S32x1 : Shape := ⟨2, ![32, 1]⟩
abbrev S32 : Shape := ⟨1, ![32]⟩
abbrev S32x1x9 : Shape := ⟨3, ![32, 1, 9]⟩
abbrev S32x32 : Shape := ⟨2, ![32, 32]⟩
abbrev S1x32 : Shape := ⟨2, ![1, 32]⟩
abbrev S1 : Shape := ⟨1, ![1]⟩
abbrev S_ : Shape := ⟨0, ![]⟩
abbrev S4x2304 : Shape := ⟨2, ![4, 2304]⟩
abbrev S4x2560 : Shape := ⟨2, ![4, 2560]⟩
abbrev S4x1x2304 : Shape := ⟨3, ![4, 1, 2304]⟩
abbrev S4x1x2560 : Shape := ⟨3, ![4, 1, 2560]⟩
abbrev S256x32 : Shape := ⟨2, ![256, 32]⟩
abbrev S32x256 : Shape := ⟨2, ![32, 256]⟩
abbrev S1x32x1x256 : Shape := ⟨4, ![1, 32, 1, 256]⟩
abbrev S1x32x32x256 : Shape := ⟨4, ![1, 32, 32, 256]⟩
abbrev S32x8192 : Shape := ⟨2, ![32, 8192]⟩
abbrev S2048 : Shape := ⟨1, ![2048]⟩
abbrev S1x2048 : Shape := ⟨2, ![1, 2048]⟩
abbrev S8 : Shape := ⟨1, ![8]⟩
abbrev S8x1 : Shape := ⟨2, ![8, 1]⟩
abbrev S8x2048 : Shape := ⟨2, ![8, 2048]⟩
abbrev S32x9 : Shape := ⟨2, ![32, 9]⟩
abbrev S1x1 : Shape := ⟨2, ![1, 1]⟩
abbrev S4x1x2048 : Shape := ⟨3, ![4, 1, 2048]⟩
abbrev S4x2048x256 : Shape := ⟨3, ![4, 2048, 256]⟩
abbrev S1x1x2304 : Shape := ⟨3, ![1, 1, 2304]⟩
abbrev S1x1x2560 : Shape := ⟨3, ![1, 1, 2560]⟩
abbrev S1x1x2048 : Shape := ⟨3, ![1, 1, 2048]⟩
abbrev S1x2048x256 : Shape := ⟨3, ![1, 2048, 256]⟩
abbrev S1x2304 : Shape := ⟨2, ![1, 2304]⟩
abbrev S32x2048 : Shape := ⟨2, ![32, 2048]⟩
abbrev S2048x32 : Shape := ⟨2, ![2048, 32]⟩
abbrev S1x1792 : Shape := ⟨2, ![1, 1792]⟩
abbrev S1x4096 : Shape := ⟨2, ![1, 4096]⟩
abbrev S256x4096 : Shape := ⟨2, ![256, 4096]⟩
abbrev S256x2048 : Shape := ⟨2, ![256, 2048]⟩
abbrev S1x256 : Shape := ⟨2, ![1, 256]⟩
abbrev S1x8192 : Shape := ⟨2, ![1, 8192]⟩
abbrev S8x32 : Shape := ⟨2, ![8, 32]⟩
abbrev S16x2048 : Shape := ⟨2, ![16, 2048]⟩
abbrev S16x256 : Shape := ⟨2, ![16, 256]⟩
abbrev S256x16 : Shape := ⟨2, ![256, 16]⟩
abbrev S256x128 : Shape := ⟨2, ![256, 128]⟩
abbrev S128 : Shape := ⟨1, ![128]⟩
abbrev S1x128 : Shape := ⟨2, ![1, 128]⟩
abbrev S128x256 : Shape := ⟨2, ![128, 256]⟩
abbrev S1x128x256 : Shape := ⟨3, ![1, 128, 256]⟩

abbrev nBuf : Space → Nat
  | .hbm => 46
  | .vmem => 19
  | .smem => 0
  | _ => 0

abbrev bufTy : (tb : Table) → Fin (tcTables nBuf tb) → BufTy
  | .hbm, ⟨0, _⟩ => ⟨S4x2048, .f32⟩
  | .hbm, ⟨1, _⟩ => ⟨S257x32, .f32⟩
  | .hbm, ⟨2, _⟩ => ⟨S32x1, .f32⟩
  | .hbm, ⟨3, _⟩ => ⟨S32, .f32⟩
  | .hbm, ⟨4, _⟩ => ⟨S32x1x9, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32x32, .f32⟩
  | .hbm, ⟨10, _⟩ => ⟨S1x32, .f32⟩
  | .hbm, ⟨11, _⟩ => ⟨S1, .f32⟩
  | .hbm, ⟨12, _⟩ => ⟨S_, .i32⟩
  | .hbm, ⟨13, _⟩ => ⟨S_, .f32⟩
  | .hbm, ⟨14, _⟩ => ⟨S4x2304, .f32⟩
  | .hbm, ⟨15, _⟩ => ⟨S4x2304, .f32⟩
  | .hbm, ⟨16, _⟩ => ⟨S_, .i32⟩
  | .hbm, ⟨17, _⟩ => ⟨S_, .f32⟩
  | .hbm, ⟨18, _⟩ => ⟨S4x2560, .f32⟩
  | .hbm, ⟨19, _⟩ => ⟨S4x1x2304, .f32⟩
  | .hbm, ⟨20, _⟩ => ⟨S4x1x2560, .f32⟩
  | .hbm, ⟨21, _⟩ => ⟨S256x32, .f32⟩
  | .hbm, ⟨22, _⟩ => ⟨S1x32, .f32⟩
  | .hbm, ⟨23, _⟩ => ⟨S256x32, .f32⟩
  | .hbm, ⟨24, _⟩ => ⟨S256x32, .f32⟩
  | .hbm, ⟨25, _⟩ => ⟨S32x256, .f32⟩
  | .hbm, ⟨26, _⟩ => ⟨S1x32x1x256, .f32⟩
  | .hbm, ⟨27, _⟩ => ⟨S1x32x32x256, .f32⟩
  | .hbm, ⟨28, _⟩ => ⟨S32x8192, .f32⟩
  | .hbm, ⟨29, _⟩ => ⟨S2048, .i32⟩
  | .hbm, ⟨30, _⟩ => ⟨S1x2048, .i32⟩
  | .hbm, ⟨31, _⟩ => ⟨S8, .i32⟩
  | .hbm, ⟨32, _⟩ => ⟨S8x1, .i32⟩
  | .hbm, ⟨33, _⟩ => ⟨S_, .i32⟩
  | .hbm, ⟨34, _⟩ => ⟨S1x2048, .i32⟩
  | .hbm, ⟨35, _⟩ => ⟨S1x2048, .i32⟩
  | .hbm, ⟨36, _⟩ => ⟨S8x2048, .i32⟩
  | .hbm, ⟨37, _⟩ => ⟨S8x2048, .i32⟩
  | .hbm, ⟨38, _⟩ => ⟨S8x2048, .i1⟩
  | .hbm, ⟨39, _⟩ => ⟨S8x2048, .f32⟩
  | .hbm, ⟨40, _⟩ => ⟨S32x9, .f32⟩
  | .hbm, ⟨41, _⟩ => ⟨S32x1, .f32⟩
  | .hbm, ⟨42, _⟩ => ⟨S32x1, .f32⟩
  | .hbm, ⟨43, _⟩ => ⟨S1x1, .f32⟩
  | .hbm, ⟨44, _⟩ => ⟨S4x1x2048, .f32⟩
  | .hbm, ⟨45, _⟩ => ⟨S4x2048x256, .f32⟩
  | .local _ .vmem, ⟨0, _⟩ => ⟨S1x1x2304, .f32⟩
  | .local _ .vmem, ⟨1, _⟩ => ⟨S1x1x2304, .f32⟩
  | .local _ .vmem, ⟨2, _⟩ => ⟨S1x1x2560, .f32⟩
  | .local _ .vmem, ⟨3, _⟩ => ⟨S1x1x2560, .f32⟩
  | .local _ .vmem, ⟨4, _⟩ => ⟨S32x8192, .f32⟩
  | .local _ .vmem, ⟨5, _⟩ => ⟨S8x2048, .f32⟩
  | .local _ .vmem, ⟨6, _⟩ => ⟨S32x1, .f32⟩
  | .local _ .vmem, ⟨7, _⟩ => ⟨S32x9, .f32⟩
  | .local _ .vmem, ⟨8, _⟩ => ⟨S32x1, .f32⟩
  | .local _ .vmem, ⟨9, _⟩ => ⟨S32x32, .f32⟩
  | .local _ .vmem, ⟨10, _⟩ => ⟨S32x1, .f32⟩
  | .local _ .vmem, ⟨11, _⟩ => ⟨S32x32, .f32⟩
  | .local _ .vmem, ⟨12, _⟩ => ⟨S32x32, .f32⟩
  | .local _ .vmem, ⟨13, _⟩ => ⟨S1x32, .f32⟩
  | .local _ .vmem, ⟨14, _⟩ => ⟨S1x1, .f32⟩
  | .local _ .vmem, ⟨15, _⟩ => ⟨S1x1x2048, .f32⟩
  | .local _ .vmem, ⟨16, _⟩ => ⟨S1x1x2048, .f32⟩
  | .local _ .vmem, ⟨17, _⟩ => ⟨S1x2048x256, .f32⟩
  | .local _ .vmem, ⟨18, _⟩ => ⟨S1x2048x256, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_call0_v0 : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_call1_v0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_c_1 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_v0_0 : Ref sig .tc := ⟨.hbm, 44, rfl⟩
abbrev main_v0_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![4, 1], ![false, false]⟩

def k0_off1 (i : grid0.Coords) : Fin 3 → Nat :=
  let c0_21 : Index := 0#32
  let c0_22 : Index := 0#32
  let arg1 : BitVec 32 := BitVec.ofNat 32 (i 1).val
  let c2048_i32 : BitVec 32 := 2048#32
  let v0 : BitVec 32 := Scalar.muli arg1 c2048_i32
  let v18 : Index := Scalar.indexCast v0
  ![0, 0, v18.toNat]
def k0_off2 (i : grid0.Coords) : Fin 3 → Nat :=
  let c0_23 : Index := 0#32
  let c0_24 : Index := 0#32
  let c256_i32 : BitVec 32 := 256#32
  let arg1 : BitVec 32 := BitVec.ofNat 32 (i 1).val
  let c2048_i32 : BitVec 32 := 2048#32
  let v0 : BitVec 32 := Scalar.muli arg1 c2048_i32
  let v21 : BitVec 32 := Scalar.subi c256_i32 v0
  let v22 : Index := Scalar.indexCast v21
  ![0, 0, v22.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S4x2048 : Shape := ⟨2, ![4, 2048]⟩
abbrev S257x32 : Shape := ⟨2, ![257, 32]⟩
abbrev S32x1 : Shape := ⟨2, ![32, 1]⟩
abbrev S32 : Shape := ⟨1, ![32]⟩
abbrev S32x1x9 : Shape := ⟨3, ![32, 1, 9]⟩
abbrev S32x32 : Shape := ⟨2, ![32, 32]⟩
abbrev S1x32 : Shape := ⟨2, ![1, 32]⟩
abbrev S1 : Shape := ⟨1, ![1]⟩
abbrev S_ : Shape := ⟨0, ![]⟩
abbrev S4x2304 : Shape := ⟨2, ![4, 2304]⟩
abbrev S2048 : Shape := ⟨1, ![2048]⟩
abbrev S2048x1 : Shape := ⟨2, ![2048, 1]⟩
abbrev S256 : Shape := ⟨1, ![256]⟩
abbrev S1x256 : Shape := ⟨2, ![1, 256]⟩
abbrev S2048x256 : Shape := ⟨2, ![2048, 256]⟩
abbrev S2048x256x1 : Shape := ⟨3, ![2048, 256, 1]⟩
abbrev S4x2048x256 : Shape := ⟨3, ![4, 2048, 256]⟩
abbrev S4x2056 : Shape := ⟨2, ![4, 2056]⟩
abbrev S4x1x2048 : Shape := ⟨3, ![4, 1, 2048]⟩
abbrev S32x1x1 : Shape := ⟨3, ![32, 1, 1]⟩
abbrev S1x32x1 : Shape := ⟨3, ![1, 32, 1]⟩
abbrev S4x32x2048 : Shape := ⟨3, ![4, 32, 2048]⟩
abbrev S4x2048x32 : Shape := ⟨3, ![4, 2048, 32]⟩
abbrev S1x1x32 : Shape := ⟨3, ![1, 1, 32]⟩
abbrev S4x2048x256x1 : Shape := ⟨4, ![4, 2048, 256, 1]⟩
abbrev S1x1x1x32 : Shape := ⟨4, ![1, 1, 1, 32]⟩
abbrev S4x2048x256x32 : Shape := ⟨4, ![4, 2048, 256, 32]⟩
abbrev S256x32 : Shape := ⟨2, ![256, 32]⟩
abbrev S1x1x256x32 : Shape := ⟨4, ![1, 1, 256, 32]⟩
abbrev S4x2048x16 : Shape := ⟨3, ![4, 2048, 16]⟩
abbrev S4x2048x16x1 : Shape := ⟨4, ![4, 2048, 16, 1]⟩
abbrev S1x1x1x256 : Shape := ⟨4, ![1, 1, 1, 256]⟩
abbrev S4x2048x16x256 : Shape := ⟨4, ![4, 2048, 16, 256]⟩
abbrev S4x2048x1 : Shape := ⟨3, ![4, 2048, 1]⟩
abbrev S1x1x1 : Shape := ⟨3, ![1, 1, 1]⟩

abbrev nBuf : Space → Nat
  | .hbm => 187
  | .vmem => 0
  | .smem => 0
  | _ => 0

abbrev hbmTy0_0 (i : Nat) : BufTy := match i % 128 with
  | 0 => ⟨S4x2048, .f32⟩
  | 1 => ⟨S257x32, .f32⟩
  | 2 => ⟨S32x1, .f32⟩
  | 3 => ⟨S32, .f32⟩
  | 4 => ⟨S32x1x9, .f32⟩
  | 5 => ⟨S32, .f32⟩
  | 6 => ⟨S32x32, .f32⟩
  | 7 => ⟨S32, .f32⟩
  | 8 => ⟨S32x32, .f32⟩
  | 9 => ⟨S32x32, .f32⟩
  | 10 => ⟨S1x32, .f32⟩
  | 11 => ⟨S1, .f32⟩
  | 12 => ⟨S_, .f32⟩
  | 13 => ⟨S4x2304, .f32⟩
  | 14 => ⟨S2048, .i32⟩
  | 15 => ⟨S2048x1, .i32⟩
  | 16 => ⟨S256, .i32⟩
  | 17 => ⟨S1x256, .i32⟩
  | 18 => ⟨S_, .i32⟩
  | 19 => ⟨S2048x1, .i32⟩
  | 20 => ⟨S2048x1, .i32⟩
  | 21 => ⟨S2048x256, .i32⟩
  | 22 => ⟨S2048x256, .i32⟩
  | 23 => ⟨S2048x256, .i32⟩
  | 24 => ⟨S_, .i32⟩
  | 25 => ⟨S2048x256, .i32⟩
  | 26 => ⟨S2048x256, .i1⟩
  | 27 => ⟨S_, .i32⟩
  | 28 => ⟨S2048x256, .i32⟩
  | 29 => ⟨S2048x256, .i32⟩
  | 30 => ⟨S2048x256, .i32⟩
  | 31 => ⟨S2048x256x1, .i32⟩
  | 32 => ⟨S4x2048x256, .f32⟩
  | 33 => ⟨S_, .f32⟩
  | 34 => ⟨S4x2056, .f32⟩
  | 35 => ⟨S4x2048, .f32⟩
  | 36 => ⟨S4x1x2048, .f32⟩
  | 37 => ⟨S32x1x1, .f32⟩
  | 38 => ⟨S32, .f32⟩
  | 39 => ⟨S1x32x1, .f32⟩
  | 40 => ⟨S4x32x2048, .f32⟩
  | 41 => ⟨S4x32x2048, .f32⟩
  | 42 => ⟨S4x32x2048, .f32⟩
  | 43 => ⟨S_, .f32⟩
  | 44 => ⟨S4x32x2048, .f32⟩
  | 45 => ⟨S4x32x2048, .f32⟩
  | 46 => ⟨S4x2048, .f32⟩
  | 47 => ⟨S4x1x2048, .f32⟩
  | 48 => ⟨S32x1x1, .f32⟩
  | 49 => ⟨S32, .f32⟩
  | 50 => ⟨S1x32x1, .f32⟩
  | 51 => ⟨S4x32x2048, .f32⟩
  | 52 => ⟨S4x32x2048, .f32⟩
  | 53 => ⟨S4x32x2048, .f32⟩
  | 54 => ⟨S4x32x2048, .f32⟩
  | 55 => ⟨S4x2048, .f32⟩
  | 56 => ⟨S4x1x2048, .f32⟩
  | 57 => ⟨S32x1x1, .f32⟩
  | 58 => ⟨S32, .f32⟩
  | 59 => ⟨S1x32x1, .f32⟩
  | 60 => ⟨S4x32x2048, .f32⟩
  | 61 => ⟨S4x32x2048, .f32⟩
  | 62 => ⟨S4x32x2048, .f32⟩
  | 63 => ⟨S4x32x2048, .f32⟩
  | 64 => ⟨S4x2048, .f32⟩
  | 65 => ⟨S4x1x2048, .f32⟩
  | 66 => ⟨S32x1x1, .f32⟩
  | 67 => ⟨S32, .f32⟩
  | 68 => ⟨S1x32x1, .f32⟩
  | 69 => ⟨S4x32x2048, .f32⟩
  | 70 => ⟨S4x32x2048, .f32⟩
  | 71 => ⟨S4x32x2048, .f32⟩
  | 72 => ⟨S4x32x2048, .f32⟩
  | 73 => ⟨S4x2048, .f32⟩
  | 74 => ⟨S4x1x2048, .f32⟩
  | 75 => ⟨S32x1x1, .f32⟩
  | 76 => ⟨S32, .f32⟩
  | 77 => ⟨S1x32x1, .f32⟩
  | 78 => ⟨S4x32x2048, .f32⟩
  | 79 => ⟨S4x32x2048, .f32⟩
  | 80 => ⟨S4x32x2048, .f32⟩
  | 81 => ⟨S4x32x2048, .f32⟩
  | 82 => ⟨S4x2048, .f32⟩
  | 83 => ⟨S4x1x2048, .f32⟩
  | 84 => ⟨S32x1x1, .f32⟩
  | 85 => ⟨S32, .f32⟩
  | 86 => ⟨S1x32x1, .f32⟩
  | 87 => ⟨S4x32x2048, .f32⟩
  | 88 => ⟨S4x32x2048, .f32⟩
  | 89 => ⟨S4x32x2048, .f32⟩
  | 90 => ⟨S4x32x2048, .f32⟩
  | 91 => ⟨S4x2048, .f32⟩
  | 92 => ⟨S4x1x2048, .f32⟩
  | 93 => ⟨S32x1x1, .f32⟩
  | 94 => ⟨S32, .f32⟩
  | 95 => ⟨S1x32x1, .f32⟩
  | 96 => ⟨S4x32x2048, .f32⟩
  | 97 => ⟨S4x32x2048, .f32⟩
  | 98 => ⟨S4x32x2048, .f32⟩
  | 99 => ⟨S4x32x2048, .f32⟩
  | 100 => ⟨S4x2048, .f32⟩
  | 101 => ⟨S4x1x2048, .f32⟩
  | 102 => ⟨S32x1x1, .f32⟩
  | 103 => ⟨S32, .f32⟩
  | 104 => ⟨S1x32x1, .f32⟩
  | 105 => ⟨S4x32x2048, .f32⟩
  | 106 => ⟨S4x32x2048, .f32⟩
  | 107 => ⟨S4x32x2048, .f32⟩
  | 108 => ⟨S4x32x2048, .f32⟩
  | 109 => ⟨S4x2048, .f32⟩
  | 110 => ⟨S4x1x2048, .f32⟩
  | 111 => ⟨S32x1x1, .f32⟩
  | 112 => ⟨S32, .f32⟩
  | 113 => ⟨S1x32x1, .f32⟩
  | 114 => ⟨S4x32x2048, .f32⟩
  | 115 => ⟨S4x32x2048, .f32⟩
  | 116 => ⟨S4x32x2048, .f32⟩
  | 117 => ⟨S4x32x2048, .f32⟩
  | 118 => ⟨S1x32x1, .f32⟩
  | 119 => ⟨S4x32x2048, .f32⟩
  | 120 => ⟨S4x32x2048, .f32⟩
  | 121 => ⟨S4x2048x32, .f32⟩
  | 122 => ⟨S32x32, .f32⟩
  | 123 => ⟨S4x2048x32, .f32⟩
  | 124 => ⟨S1x1x32, .f32⟩
  | 125 => ⟨S4x2048x32, .f32⟩
  | 126 => ⟨S4x2048x32, .f32⟩
  | 127 => ⟨S4x2048x256x1, .f32⟩
  | _ => ⟨S4x2048, .f32⟩

abbrev hbmTy0_1 (i : Nat) : BufTy := match i % 128 with
  | 0 => ⟨S32, .f32⟩
  | 1 => ⟨S1x1x1x32, .f32⟩
  | 2 => ⟨S4x2048x256x32, .f32⟩
  | 3 => ⟨S4x2048x256x32, .f32⟩
  | 4 => ⟨S4x2048x256x32, .f32⟩
  | 5 => ⟨S1x1x1x32, .f32⟩
  | 6 => ⟨S4x2048x256x32, .f32⟩
  | 7 => ⟨S4x2048x256x32, .f32⟩
  | 8 => ⟨S256x32, .f32⟩
  | 9 => ⟨S1x1x256x32, .f32⟩
  | 10 => ⟨S4x2048x256x32, .f32⟩
  | 11 => ⟨S4x2048x256x32, .f32⟩
  | 12 => ⟨S32x32, .f32⟩
  | 13 => ⟨S4x2048x32, .f32⟩
  | 14 => ⟨S32x32, .f32⟩
  | 15 => ⟨S4x2048x256x32, .f32⟩
  | 16 => ⟨S4x2048x256, .f32⟩
  | 17 => ⟨S4x2048x16, .f32⟩
  | 18 => ⟨S4x2048x16, .i32⟩
  | 19 => ⟨S4x2048x16x1, .i32⟩
  | 20 => ⟨S1x1x1x256, .i32⟩
  | 21 => ⟨S4x2048x16x256, .i32⟩
  | 22 => ⟨S4x2048x16x256, .i32⟩
  | 23 => ⟨S4x2048x16x256, .i1⟩
  | 24 => ⟨S4x2048x16x256, .f32⟩
  | 25 => ⟨S_, .f32⟩
  | 26 => ⟨S4x2048x256, .f32⟩
  | 27 => ⟨S_, .f32⟩
  | 28 => ⟨S4x2048x256, .f32⟩
  | 29 => ⟨S4x2048x256, .i1⟩
  | 30 => ⟨S_, .f32⟩
  | 31 => ⟨S_, .f32⟩
  | 32 => ⟨S4x2048x256, .f32⟩
  | 33 => ⟨S4x2048x256, .f32⟩
  | 34 => ⟨S_, .f32⟩
  | 35 => ⟨S4x2048, .f32⟩
  | 36 => ⟨S_, .f32⟩
  | 37 => ⟨S4x2048, .f32⟩
  | 38 => ⟨S4x2048, .f32⟩
  | 39 => ⟨S4x2048x1, .f32⟩
  | 40 => ⟨S4x2048x256, .f32⟩
  | 41 => ⟨S4x2048x256, .f32⟩
  | 42 => ⟨S4x2048x256, .f32⟩
  | 43 => ⟨S_, .f32⟩
  | 44 => ⟨S4x2048, .f32⟩
  | 45 => ⟨S4x2048x1, .f32⟩
  | 46 => ⟨S4x2048x256, .f32⟩
  | 47 => ⟨S4x2048x256, .f32⟩
  | 48 => ⟨S4x2048x256, .f32⟩
  | 49 => ⟨S_, .f32⟩
  | 50 => ⟨S4x2048, .f32⟩
  | 51 => ⟨S32x1, .f32⟩
  | 52 => ⟨S4x2048x1, .f32⟩
  | 53 => ⟨S1x1x1, .f32⟩
  | 54 => ⟨S4x2048x1, .f32⟩
  | 55 => ⟨S4x2048x1, .f32⟩
  | 56 => ⟨S4x2048, .f32⟩
  | 57 => ⟨S4x2048, .f32⟩
  | 58 => ⟨S4x1x2048, .f32⟩
  | _ => ⟨S4x2048, .f32⟩

abbrev hbmTy (i : Nat) : BufTy := match i / 128 with
  | 0 => hbmTy0_0 i
  | 1 => hbmTy0_1 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_values : Ref sig .tc := ⟨.hbm, 145, rfl⟩
abbrev main_indices : Ref sig .tc := ⟨.hbm, 146, rfl⟩
abbrev main_call0_v0 : Ref sig .tc := ⟨.hbm, 147, rfl⟩
abbrev main_call0_v1 : Ref sig .tc := ⟨.hbm, 148, rfl⟩
abbrev main_call0_v2 : Ref sig .tc := ⟨.hbm, 149, rfl⟩
abbrev main_call0_v3 : Ref sig .tc := ⟨.hbm, 150, rfl⟩
abbrev main_call0_v4 : Ref sig .tc := ⟨.hbm, 151, rfl⟩
abbrev main_v127 : Ref sig .tc := ⟨.hbm, 152, rfl⟩
abbrev main_cst_4 : Ref sig .tc := ⟨.hbm, 153, rfl⟩
abbrev main_v128 : Ref sig .tc := ⟨.hbm, 154, rfl⟩
abbrev main_cst_5 : Ref sig .tc := ⟨.hbm, 155, rfl⟩
abbrev main_v129 : Ref sig .tc := ⟨.hbm, 156, rfl⟩
abbrev main_v130 : Ref sig .tc := ⟨.hbm, 157, rfl⟩
abbrev main_cst_6 : Ref sig .tc := ⟨.hbm, 158, rfl⟩
abbrev main_call1_v0 : Ref sig .tc := ⟨.hbm, 159, rfl⟩
abbrev main_call1_v1 : Ref sig .tc := ⟨.hbm, 160, rfl⟩
abbrev main_v131 : Ref sig .tc := ⟨.hbm, 161, rfl⟩
abbrev main_cst_7 : Ref sig .tc := ⟨.hbm, 162, rfl⟩
abbrev main_v132 : Ref sig .tc := ⟨.hbm, 163, rfl⟩
abbrev main_cst_8 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_9 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_10 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩

abbrev nD : Nat := 1
abbrev τ : Topo := Topo.v7x

variable {F : FTy → Type} [FloatOps F]
-- ==== Proof.TopLags.lean ====
/-
  The mathematics of one token's row of logits, with no program in sight: knocking the greatest entry out sixteen times
  finds the sixteen greatest entries, and the softmax over them is the same whether the division is done entry by entry
  or once.
-/
module

public import Idealize.ShloMosaic.Lib.Pointwise
public import Idealize.ShloMosaic.Lib.SortFacts

@[expose] public section

noncomputable section

namespace Cert.TopLags

open Idealize.ShloMosaic

variable {n : ℕ}

/-- The greatest entry of a row (`⊥` for the empty row), as a maximum reduction computes it. -/
def top (x : Fin n → EReal) : EReal := Finset.univ.fold max ⊥ x

/-- The row after its greatest value has been replaced by `⊥` in `j` rounds. -/
def knock (x : Fin n → EReal) : ℕ → Fin n → EReal
  | 0 => x
  | j + 1 => fun l => if top (knock x j) ≤ knock x j l then ⊥ else knock x j l

/-- The position of the `i`-th greatest entry, ties in order of position: what a stable descending sort gives. -/
def rank (x : Fin n → EReal) : Fin n → Fin n :=
  sortedFrom fun k k' => FloatOps.cmpfTotal (F := Ideal) (φ := .f32) .gt (x k) (x k') == 1#1

/-- The sort's comparison is the strict order of the extended reals. -/
theorem before_iff (a b : EReal) :
    (FloatOps.cmpfTotal (F := Ideal) (φ := .f32) .gt a b == 1#1) = decide (b < a) := by
  show ((BitVec.ofBool (decide (a > b))) == 1#1) = _
  by_cases h : b < a <;> simp [h]

theorem rank_surjective (x : Fin n → EReal) : Function.Surjective (rank x) := sortedFrom_surjective _

theorem rank_injective (x : Fin n → EReal) : Function.Injective (rank x) := sortedFrom_injective _

/-- Along the ranks the entries do not increase. -/
theorem rank_antitone (x : Fin n → EReal) (i j : Fin n) (h : i ≤ j) : x (rank x j) ≤ x (rank x i) := by
  rcases eq_or_lt_of_le h with rfl | h
  · exact le_rfl
  have := sortedFrom_noInversion
    (fun k k' => FloatOps.cmpfTotal (F := Ideal) (φ := .f32) .gt (x k) (x k') == 1#1)
    (fun k k' => FloatOps.cmpfTotal (F := Ideal) (φ := .f32) .gt (x k) (x k') == 1#1)
    (fun a b hab => by
      rw [before_iff] at hab ⊢
      simp only [decide_eq_true_eq, decide_eq_false_iff_not, not_lt] at hab ⊢
      exact hab.le)
    (fun a b hab => hab)
    (fun a b c hab hbc => by
      rw [before_iff] at hab hbc ⊢
      simp only [decide_eq_false_iff_not, not_lt] at hab hbc ⊢
      exact hab.trans hbc) i j h
  rw [before_iff] at this
  exact not_lt.mp (of_decide_eq_false this)

/-- A row whose `k + 1` greatest entries differ and whose greatest is below `⊤`. -/
structure Strict (x : Fin n → EReal) (k : ℕ) : Prop where
  lt : ∀ i j : Fin n, i.val < k → j.val = i.val + 1 → x (rank x j) < x (rank x i)
  fin : ∀ i : Fin n, i.val = 0 → x (rank x i) < ⊤

/-- The maximum of a row is an entry that bounds all of them. -/
theorem top_eq (x : Fin n → EReal) (l : Fin n) (h : ∀ i, x i ≤ x l) : top x = x l := by
  unfold top
  apply le_antisymm
  · rw [Finset.fold_max_le]
    exact ⟨bot_le, fun i _ => h i⟩
  · rw [Finset.le_fold_max]
    exact Or.inr ⟨l, Finset.mem_univ _, le_rfl⟩

/-- The greatest entry is the one at rank 0. -/
theorem top_rank (x : Fin n) (y : Fin n → EReal) (hx : x.val = 0) : top y = y (rank y x) := by
  apply top_eq
  intro i
  obtain ⟨p, rfl⟩ := rank_surjective y i
  exact rank_antitone y x p (by rw [Fin.le_def, hx]; exact Nat.zero_le _)

/-- After `j` rounds the `j` greatest entries are `⊥` and the others are as they were. -/
theorem knock_rank (x : Fin n → EReal) (k : ℕ) (hx : Strict x k) (hk : k < n) :
    ∀ j, j ≤ k → ∀ i : Fin n, knock x j (rank x i) = if i.val < j then ⊥ else x (rank x i) := by
  intro j
  induction j with
  | zero => intro _ i; simp [knock]
  | succ j ih =>
    intro hj i
    have ih := ih (by omega)
    have jn : j < n := by omega
    have jn1 : j + 1 < n := by omega
    have hlt : x (rank x ⟨j + 1, jn1⟩) < x (rank x ⟨j, jn⟩) := hx.lt ⟨j, jn⟩ ⟨j + 1, jn1⟩ (by simp; omega) rfl
    have htop : top (knock x j) = x (rank x ⟨j, jn⟩) := by
      have e : knock x j (rank x ⟨j, jn⟩) = x (rank x ⟨j, jn⟩) := by rw [ih]; simp
      rw [← e]
      apply top_eq
      intro l
      obtain ⟨p, rfl⟩ := rank_surjective x l
      rw [e, ih]
      split
      · exact bot_le
      · exact rank_antitone x _ _ (by rw [Fin.le_def]; simp; omega)
    show (if top (knock x j) ≤ knock x j (rank x i) then ⊥ else knock x j (rank x i)) = _
    rw [htop, ih]
    by_cases h1 : i.val < j
    · simp only [h1, if_true, show i.val < j + 1 by omega, ite_self]
    · by_cases h2 : i.val = j
      · have : i = ⟨j, jn⟩ := Fin.ext h2
        subst this
        simp
      · have h3 : ¬ i.val < j + 1 := by omega
        simp only [h1, h3, if_false]
        rw [if_neg]
        rw [not_le]
        exact lt_of_le_of_lt (rank_antitone x ⟨j + 1, jn1⟩ i (by rw [Fin.le_def]; simp; omega)) hlt

/-- The greatest entry after `j` rounds is the one at rank `j`. -/
theorem top_knock (x : Fin n → EReal) (k : ℕ) (hx : Strict x k) (hk : k < n) (j : Fin n) (hj : j.val ≤ k) :
    top (knock x j.val) = x (rank x j) := by
  have e : knock x j.val (rank x j) = x (rank x j) := by rw [knock_rank x k hx hk _ hj]; simp
  rw [← e]
  apply top_eq
  intro l
  obtain ⟨p, rfl⟩ := rank_surjective x l
  rw [e, knock_rank x k hx hk _ hj]
  split
  · exact bot_le
  · exact rank_antitone x _ _ (by rw [Fin.le_def]; omega)

/-- An entry is at least the last of `k + 1` thresholds exactly when its rank is at most `k`. -/
theorem kept_iff (x : Fin n → EReal) (k : ℕ) (hx : Strict x (k + 1)) (hk : k + 1 < n) (l : Fin n) :
    top (knock x k) ≤ x l ↔ ∃ i : Fin n, i.val < k + 1 ∧ rank x i = l := by
  have e := top_knock x (k + 1) hx hk ⟨k, by omega⟩ (by simp)
  simp only at e
  rw [e]
  obtain ⟨p, rfl⟩ := rank_surjective x l
  constructor
  · intro h
    refine ⟨p, ?_, rfl⟩
    by_contra hp
    have h1 := rank_antitone x ⟨k + 1, hk⟩ p (by rw [Fin.le_def]; simp; omega)
    exact absurd (h.trans h1) (not_le.mpr (hx.lt ⟨k, by omega⟩ ⟨k + 1, hk⟩ (by simp) rfl))
  · rintro ⟨i, hi, h⟩
    have := rank_injective x h
    subst this
    exact rank_antitone x _ _ (by rw [Fin.le_def]; simp; omega)

/-- The exponential of the entries at least `v`, shifted by the greatest entry, and 0 elsewhere. -/
def shifted (x : Fin n → EReal) (v : EReal) (l : Fin n) : EReal := if v ≤ x l then Ideal.exp (x l - top x) else 0

/-- The row's weights: the softmax over the entries the last of `k + 1` thresholds keeps. -/
def weight (x : Fin n → EReal) (k : ℕ) (l : Fin n) : EReal :=
  Ideal.div (shifted x (top (knock x k)) l) (∑ l', shifted x (top (knock x k)) l')

/-- Masking with `⊥` and exponentiating is exponentiating the kept entries and putting 0 elsewhere. -/
theorem exp_masked (P : Prop) [Decidable P] (a b : EReal) :
    Ideal.exp ((if P then a else ⊥) - b) = if P then Ideal.exp (a - b) else 0 := by
  split
  · rfl
  · rw [sub_eq_add_neg, EReal.bot_add]; rfl

/-- The exponential is never negative. -/
theorem exp_nonneg (a : EReal) : 0 ≤ Ideal.exp a := by
  induction a with
  | bot => exact le_rfl
  | top => exact le_top
  | coe r => show (0 : EReal) ≤ ((Real.exp r : ℝ) : EReal); exact_mod_cast (Real.exp_pos r).le

theorem shifted_nonneg (x : Fin n → EReal) (v : EReal) (l : Fin n) : 0 ≤ shifted x v l := by
  unfold shifted
  split
  · exact exp_nonneg _
  · exact le_rfl

/-- The sum of the shifted exponentials is not 0: the greatest entry contributes 1. -/
theorem sum_shifted_ne (x : Fin n → EReal) (k : ℕ) (hx : Strict x (k + 1)) (hk : k + 1 < n) :
    (∑ l, shifted x (top (knock x k)) l) ≠ 0 := by
  have h0 : 0 < n := by omega
  have et : top x = x (rank x ⟨0, h0⟩) := top_rank ⟨0, h0⟩ x rfl
  have hle : shifted x (top (knock x k)) (rank x ⟨0, h0⟩) ≤ ∑ l, shifted x (top (knock x k)) l :=
    Finset.single_le_sum (fun l _ => shifted_nonneg x _ l) (Finset.mem_univ _)
  have hmem : top (knock x k) ≤ x (rank x ⟨0, h0⟩) := (kept_iff x k hx hk _).mpr ⟨⟨0, h0⟩, by simp, rfl⟩
  have hbot : x (rank x ⟨0, h0⟩) ≠ ⊥ :=
    (lt_of_le_of_lt bot_le (hx.lt ⟨0, h0⟩ ⟨1, by omega⟩ (by simp) rfl)).ne'
  have htop : x (rank x ⟨0, h0⟩) ≠ ⊤ := (hx.fin ⟨0, h0⟩ rfl).ne
  have e1 : shifted x (top (knock x k)) (rank x ⟨0, h0⟩) = 1 := by
    unfold shifted
    rw [if_pos hmem, et, EReal.sub_self htop hbot]
    show ((Real.exp 0 : ℝ) : EReal) = 1
    simp
  rw [e1] at hle
  intro h
  rw [h] at hle
  exact absurd hle (by norm_num)

/-- Multiplying by the reciprocal of the sum is dividing by the sum. -/
theorem mul_inv_sum (x : Fin n → EReal) (k : ℕ) (hx : Strict x (k + 1)) (hk : k + 1 < n) (l : Fin n) :
    shifted x (top (knock x k)) l * Ideal.div 1 (∑ l', shifted x (top (knock x k)) l') = weight x k l := by
  unfold weight Ideal.div
  rw [if_neg (sum_shifted_ne x k hx hk), if_neg (sum_shifted_ne x k hx hk), one_mul]

/-- The greatest of the kept entries is the greatest of all. -/
theorem top_masked (x : Fin n → EReal) (k : ℕ) (hx : Strict x (k + 1)) (hk : k + 1 < n) :
    top (fun l => if top (knock x k) ≤ x l then x l else ⊥) = top x := by
  have h0 : 0 < n := by omega
  have et : top x = x (rank x ⟨0, h0⟩) := top_rank ⟨0, h0⟩ x rfl
  have hmem : top (knock x k) ≤ x (rank x ⟨0, h0⟩) := (kept_iff x k hx hk _).mpr ⟨⟨0, h0⟩, by simp, rfl⟩
  have e : (fun l => if top (knock x k) ≤ x l then x l else ⊥) (rank x ⟨0, h0⟩) = x (rank x ⟨0, h0⟩) := if_pos hmem
  rw [et, ← e]
  apply top_eq
  intro l
  obtain ⟨p, rfl⟩ := rank_surjective x l
  refine le_of_le_of_eq ?_ e.symm
  split
  · exact rank_antitone x _ _ (by rw [Fin.le_def]; simp)
  · exact bot_le

/-- The reference's masked softmax at an entry is the row's weight. -/
theorem softmax_masked (x : Fin n → EReal) (k : ℕ) (hx : Strict x (k + 1)) (hk : k + 1 < n) (y : Fin n → EReal)
    (hy : ∀ l, y l = if top (knock x k) ≤ x l then x l else ⊥) (l : Fin n) :
    Ideal.div (Ideal.exp (y l - top y)) (∑ l', Ideal.exp (y l' - top y)) = weight x k l := by
  have e : y = fun l => if top (knock x k) ≤ x l then x l else ⊥ := funext hy
  have et : top y = top x := by rw [e]; exact top_masked x k hx hk
  have es : ∀ l, Ideal.exp (y l - top y) = shifted x (top (knock x k)) l := fun l => by
    rw [et, hy, exp_masked]; rfl
  simp only [es]
  rfl

end Cert.TopLags

end
-- ==== Proof.Spec.lean ====
/- The problem's mathematics over the extended reals, entry by entry, on plain arrays: the past values of a token, its context
   vector, its logits over the 256 lags, the weights of the softmax over the sixteen greatest, and the mean. -/
module

public import proofs.«01_k».proof.Proof.TopLags

@[expose] public section

noncomputable section

namespace Cert.Spec

open Idealize.ShloMosaic

/-- The argument arrays: the series, the lag embedding, the value map and its bias, the convolution and its bias, the context
    projection and its bias, the query and key matrices, the output row and its bias. -/
structure Args where
  x : Fin 4 → Fin 2048 → EReal
  le : Fin 257 → Fin 32 → EReal
  vw : Fin 32 → EReal
  vb : Fin 32 → EReal
  cw : Fin 32 → Fin 9 → EReal
  cb : Fin 32 → EReal
  pw : Fin 32 → Fin 32 → EReal
  pb : Fin 32 → EReal
  wq : Fin 32 → Fin 32 → EReal
  wk : Fin 32 → Fin 32 → EReal
  bw : Fin 32 → EReal
  bb : EReal

variable (a : Args) (b : Fin 4) (t : Fin 2048)

/-- The series with 256 zeros before it. -/
def xf (n : ℕ) : EReal := if h : 256 ≤ n ∧ n < 2304 then a.x b ⟨n - 256, by omega⟩ else 0

/-- The value `l + 1` steps before token `t`. -/
def past (l : Fin 256) : EReal := xf a b (255 + t.val - l.val)

/-- The causal convolution's channel `c`. -/
def conv (c : Fin 32) : EReal := a.cb c + ∑ k : Fin 9, a.cw c k * xf a b (248 + k.val + t.val)

/-- The context vector. -/
def ctx (d : Fin 32) : EReal := (∑ c, a.pw d c * conv a b t c) + a.pb d

/-- The query. -/
def query (d : Fin 32) : EReal := ∑ e, a.wq d e * ctx a b t e

/-- The embedded lag `l`. -/
def emb (l : Fin 256) (e : Fin 32) : EReal := a.vw e * past a b t l + (a.le ⟨l.val + 1, by omega⟩ e + a.vb e)

/-- The key of lag `l`. -/
def key (l : Fin 256) (d : Fin 32) : EReal := ∑ e, a.wk d e * emb a b t l e

/-- The logit of lag `l`. -/
def logit (l : Fin 256) : EReal := ∑ d, query a b t d * key a b t l d

/-- The weight of lag `l`. -/
def weight (l : Fin 256) : EReal := TopLags.weight (logit a b t) 15 l

/-- The mean. -/
def mean : EReal := (∑ l, weight a b t l * past a b t l) + ((∑ d, a.bw d * ctx a b t d) + a.bb)

end Cert.Spec

end
-- ==== Proof.RefLags.lean ====
/- The reference's stages up to the logits, read at an index. -/
module

public import proofs.«01_k».proof.Proof.Gen.ReferenceIdeal.Read
public import proofs.«01_k».proof.Proof.Spec
public import Idealize.ShloMosaic.Lib.Pointwise

@[expose] public section

set_option maxRecDepth 16384

noncomputable section

namespace Cert.RefLags

open Idealize.ShloMosaic Cert.ReferenceIdeal Cert.ReferenceIdeal.Gen Cert.ReferenceIdeal.Read

/-- The specification's arguments from the program's twelve arrays. -/
def args (x0 : (⟨⟨2, ![4, 2048]⟩, .f32⟩ : BufTy).Contents (Elt Ideal)) (x1 : (⟨⟨2, ![257, 32]⟩, .f32⟩ : BufTy).Contents (Elt Ideal))
    (x2 : (⟨⟨2, ![32, 1]⟩, .f32⟩ : BufTy).Contents (Elt Ideal)) (x3 : (⟨⟨1, ![32]⟩, .f32⟩ : BufTy).Contents (Elt Ideal))
    (x4 : (⟨⟨3, ![32, 1, 9]⟩, .f32⟩ : BufTy).Contents (Elt Ideal)) (x5 : (⟨⟨1, ![32]⟩, .f32⟩ : BufTy).Contents (Elt Ideal))
    (x6 : (⟨⟨2, ![32, 32]⟩, .f32⟩ : BufTy).Contents (Elt Ideal)) (x7 : (⟨⟨1, ![32]⟩, .f32⟩ : BufTy).Contents (Elt Ideal))
    (x8 x9 : (⟨⟨2, ![32, 32]⟩, .f32⟩ : BufTy).Contents (Elt Ideal)) (x10 : (⟨⟨2, ![1, 32]⟩, .f32⟩ : BufTy).Contents (Elt Ideal))
    (x11 : (⟨⟨1, ![1]⟩, .f32⟩ : BufTy).Contents (Elt Ideal)) : Spec.Args where
  x b t := x0 (ix2 b t)
  le l e := x1 (ix2 l e)
  vw e := x2 (ix2 e 0)
  vb e := x3 (ix1 e)
  cw c k := x4 (ix3 c 0 k)
  cb c := x5 (ix1 c)
  pw d c := x6 (ix2 d c)
  pb d := x7 (ix1 d)
  wq d e := x8 (ix2 d e)
  wk d e := x9 (ix2 d e)
  bw d := x10 (ix2 0 d)
  bb := x11 (ix1 0)

variable (x0 : (⟨S4x2048, .f32⟩ : BufTy).Contents (Elt Ideal)) (x1 : (⟨S257x32, .f32⟩ : BufTy).Contents (Elt Ideal))
  (x2 : (⟨S32x1, .f32⟩ : BufTy).Contents (Elt Ideal)) (x3 : (⟨S32, .f32⟩ : BufTy).Contents (Elt Ideal))
  (x4 : (⟨S32x1x9, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 x9 : (⟨S32x32, .f32⟩ : BufTy).Contents (Elt Ideal)) (x10 : (⟨S1x32, .f32⟩ : BufTy).Contents (Elt Ideal))
  (x11 : (⟨S1, .f32⟩ : BufTy).Contents (Elt Ideal))

/-- The series padded by 256 zeros. -/
theorem padded (b : Fin 4) (n : Fin 2304) : val_main_v0 x0 (ix2 b n) = Spec.xf (args x0 x1 x2 x3 x4 x5 x6 x7 x8 x9 x10 x11) b n.val := by
  unfold val_main_v0 val_main_cst Spec.xf args
  pointwise
  have : n.val < 2304 := n.isLt
  by_cases h : 256 ≤ n.val
  · rw [dif_pos ⟨h, by omega⟩, dif_pos (by omega)]
  · rw [dif_neg (by omega), dif_neg (by omega)]

/-- The series padded by 8 zeros: the same entries. -/
theorem padded8 (b : Fin 4) (n : Fin 2056) : val_main_v17 x0 (ix2 b n) = Spec.xf (args x0 x1 x2 x3 x4 x5 x6 x7 x8 x9 x10 x11) b (248 + n.val) := by
  unfold val_main_v17 val_main_cst_2 Spec.xf args
  pointwise
  have : n.val < 2056 := n.isLt
  by_cases h : 8 ≤ n.val
  · rw [dif_pos ⟨h, by omega⟩, dif_pos (by omega)]
    congr 2
    exact Fin.ext (by show n.val - 8 = 248 + n.val - 256; omega)
  · rw [dif_neg (by omega), dif_neg (by omega)]

/-- The position that token `t` reads for lag `l`. -/
theorem position (t : Fin 2048) (l : Fin 256) :
    (val_main_v15 (F := Ideal)) (ix3 t l 0) = BitVec.ofNat 32 (255 + t.val - l.val) := by
  pointwise [val_main_v1, val_main_v2, val_main_v3, val_main_v4, val_main_v5, val_main_v6, val_main_v7, val_main_v8, val_main_v9, val_main_v10, val_main_v11, val_main_v12, val_main_v13, val_main_v14, val_main_v15, val_main_c, val_main_c_0, val_main_c_1]
  have ht : t.val < 2048 := t.isLt
  have hl : l.val < 256 := l.isLt
  have e : IntOp.subi (IntOp.addi (255#32) (BitVec.ofNat 32 t.val)) (BitVec.ofNat 32 l.val) = BitVec.ofNat 32 (255 + t.val - l.val) := by
    apply BitVec.eq_of_toNat_eq
    simp only [IntOp.subi, IntOp.addi, BitVec.toNat_sub, BitVec.toNat_add, BitVec.toNat_ofNat]
    omega
  have hs : IntOp.cmpi .slt (BitVec.ofNat 32 (255 + t.val - l.val)) 0#32 = 0#1 := by
    have : (BitVec.ofNat 32 (255 + t.val - l.val)).toInt = ((255 + t.val - l.val : ℕ) : ℤ) := by
      rw [BitVec.toInt_eq_toNat_of_lt (by rw [BitVec.toNat_ofNat]; omega), BitVec.toNat_ofNat, Nat.mod_eq_of_lt (by omega)]
    have hd : (BitVec.ofNat 32 (255 + t.val - l.val)).slt 0#32 = false := by
      rw [BitVec.slt, this]
      exact decide_eq_false (by simp)
    show BitVec.ofBool ((BitVec.ofNat 32 (255 + t.val - l.val)).slt 0#32) = 0#1
    rw [hd]
    rfl
  rw [e, hs]
  rfl

/-- The gather of the padded series at the positions: along the second axis, from a start index read signed. -/
theorem gather_at {α : Type} (x : S4x2304.Idx → α) (idx : IVec S2048x256x1 32) (b : Fin 4) (t : Fin 2048) (l : Fin 256) (n : Fin 2304)
    (hn : idx (ix3 t l 0) = BitVec.ofNat 32 n.val) :
    Host.gather gather_S4x2304_S2048x256x1_S4x2048x256_0_1_n_n_1_2_41 x idx (ix3 b t l) = x (ix2 b n) := by
  unfold Host.gather
  congr 1
  funext a
  refine Fin.ext ?_
  show gather_S4x2304_S2048x256x1_S4x2048x256_0_1_n_n_1_2_41.start (ix3 b t l) idx a
    + gather_S4x2304_S2048x256x1_S4x2048x256_0_1_n_n_1_2_41.batchCoord (ix3 b t l) a
    + gather_S4x2304_S2048x256x1_S4x2048x256_0_1_n_n_1_2_41.offCoord (ix3 b t l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ gather_S4x2304_S2048x256x1_S4x2048x256_0_1_n_n_1_2_41.startIndexMap by decide)]
    unfold GatherDims.offCoord
    rw [dif_pos (show (0 : Fin 2) ∈ gather_S4x2304_S2048x256x1_S4x2048x256_0_1_n_n_1_2_41.sKept by decide)]
    exact (Nat.zero_add _)
  · rw [GatherDims.offCoord_eq_zero _ _ _ (fun h => ((GatherDims.mem_sKept _ _).mp h).1 (List.mem_singleton.mpr rfl))]
    unfold GatherDims.start
    rw [dif_pos (show (1 : Fin 2) ∈ gather_S4x2304_S2048x256x1_S4x2048x256_0_1_n_n_1_2_41.startIndexMap by decide)]
    have hsi : gather_S4x2304_S2048x256x1_S4x2048x256_0_1_n_n_1_2_41.siIdx (ix3 b t l) ⟨List.idxOf (1 : Fin 2) [1], by decide⟩ = ix3 t l 0 := by
      funext b; refine Fin.ext ?_
      match b with
      | ⟨0, _⟩ => rfl
      | ⟨1, _⟩ => rfl
      | ⟨2, _⟩ => rfl
    show min (idx (gather_S4x2304_S2048x256x1_S4x2048x256_0_1_n_n_1_2_41.siIdx (ix3 b t l) ⟨List.idxOf (1 : Fin 2) [1], _⟩)).toInt.toNat 2303 + 0 + 0 = n.val
    rw [hsi, hn]
    have h : n.val < 2304 := n.isLt
    rw [BitVec.toInt_eq_toNat_of_lt (by rw [BitVec.toNat_ofNat]; omega), BitVec.toNat_ofNat, Nat.mod_eq_of_lt (by omega)]
    simp only [Int.toNat_natCast]
    omega

/-- The convolution. -/
theorem conv (b : Fin 4) (c : Fin 32) (t : Fin 2048) : val_main_v102 x0 x4 x5 (ix3 b c t) = Spec.conv (args x0 x1 x2 x3 x4 x5 x6 x7 x8 x9 x10 x11) b t c := by
  pointwise [val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_cst_3]
  simp only [padded8 x0 x1 x2 x3 x4 x5 x6 x7 x8 x9 x10 x11]
  unfold Spec.conv
  rw [show 248 + t.val = 248 + (0 + t.val) by omega]
  simp only [Fin.sum_univ_succ, Fin.sum_univ_zero, add_zero]
  rw [add_comm]
  congr 1
  simp only [mul_comm, add_assoc]
  rfl

/-- The context. -/
theorem ctx (b : Fin 4) (t : Fin 2048) (d : Fin 32) : val_main_v108 x0 x4 x5 x6 x7 (ix3 b t d) = Spec.ctx (args x0 x1 x2 x3 x4 x5 x6 x7 x8 x9 x10 x11) b t d := by
  pointwise [val_main_v103, val_main_v104, val_main_v105, val_main_v106, val_main_v107, val_main_v108]
  simp only [conv x0 x1 x2 x3 x4 x5 x6 x7 x8 x9 x10 x11]
  unfold Spec.ctx
  congr 1
  exact Finset.sum_congr rfl fun c _ => mul_comm _ _

/-- The query. -/
theorem query (b : Fin 4) (t : Fin 2048) (d : Fin 32) : val_main_v123 x0 x4 x5 x6 x7 x8 (ix3 b t d) = Spec.query (args x0 x1 x2 x3 x4 x5 x6 x7 x8 x9 x10 x11) b t d := by
  pointwise [val_main_v122, val_main_v123]
  simp only [ctx x0 x1 x2 x3 x4 x5 x6 x7 x8 x9 x10 x11]
  unfold Spec.query
  exact Finset.sum_congr rfl fun c _ => mul_comm _ _

/-- The past values. -/
theorem past (b : Fin 4) (t : Fin 2048) (l : Fin 256) : val_main_v16 x0 (ix3 b t l) = Spec.past (args x0 x1 x2 x3 x4 x5 x6 x7 x8 x9 x10 x11) b t l := by
  have ht : t.val < 2048 := t.isLt
  rw [val_main_v16, gather_at _ _ b t l ⟨255 + t.val - l.val, by omega⟩ (position t l), padded x0 x1 x2 x3 x4 x5 x6 x7 x8 x9 x10 x11]
  rfl

/-- The embedded lags. -/
theorem emb (b : Fin 4) (t : Fin 2048) (l : Fin 256) (e : Fin 32) : val_main_v121 x0 x1 x2 x3 (ix4 b t l e) = Spec.emb (args x0 x1 x2 x3 x4 x5 x6 x7 x8 x9 x10 x11) b t l e := by
  pointwise [val_main_v109, val_main_v110, val_main_v111, val_main_v112, val_main_v113, val_main_v114, val_main_v115, val_main_v116, val_main_v117, val_main_v118, val_main_v119, val_main_v120, val_main_v121]
  simp only [past x0 x1 x2 x3 x4 x5 x6 x7 x8 x9 x10 x11]
  unfold Spec.emb
  rw [add_assoc, mul_comm, add_comm (x3 _)]
  simp only [add_comm 1 l.val]
  rfl

/-- The logits. -/
theorem logit (b : Fin 4) (t : Fin 2048) (l : Fin 256) : val_main_v126 x0 x1 x2 x3 x4 x5 x6 x7 x8 x9 (ix3 b t l) = Spec.logit (args x0 x1 x2 x3 x4 x5 x6 x7 x8 x9 x10 x11) b t l := by
  pointwise [val_main_v124, val_main_v125, val_main_v126]
  simp only [query x0 x1 x2 x3 x4 x5 x6 x7 x8 x9 x10 x11, emb x0 x1 x2 x3 x4 x5 x6 x7 x8 x9 x10 x11]
  unfold Spec.logit Spec.key
  exact Finset.sum_congr rfl fun d _ => congrArg _ (Finset.sum_congr rfl fun e _ => mul_comm _ _)

end Cert.RefLags

end
-- ==== Proof.TopK.lean ====
/- The host's `top_k` of the logits read at an index: its `i`-th value is the `i`-th greatest entry of the row, its `i`-th index
   that entry's position. -/
module

public import proofs.«01_k».proof.Proof.TopLags
public import Idealize.ShloMosaic.Lib.Pointwise

@[expose] public section

noncomputable section

namespace Cert.TopLags

open Idealize.ShloMosaic

/-- The shape of the logits. -/
abbrev SL : Shape := ⟨3, ![4, 2048, 256]⟩

/-- The line of the last axis through an index. -/
theorem along_ix3 (b : Fin 4) (t : Fin 2048) (l k : Fin 256) :
    Shape.Idx.along (s := SL) (ix3 b t l) (2 : Fin 3) k = ix3 b t k := by
  funext a
  match a with
  | ⟨0, _⟩ => rfl
  | ⟨1, _⟩ => rfl
  | ⟨2, _⟩ => rfl

/-- The stable sort of the rows `x` together with `y`, at an index: the two entries of rank `l`. -/
theorem sort2_at {β : Type} (x : FVec Ideal SL .f32) (y : SL.Idx → β) (b : Fin 4) (t : Fin 2048) (l : Fin 256) :
    (Host.sort2 SL 2 (fun l r => FloatOps.cmpfTotal .gt l.1 r.1) x y).1 (ix3 b t l)
      = x (ix3 b t (rank (fun l => x (ix3 b t l)) l)) ∧
    (Host.sort2 SL 2 (fun l r => FloatOps.cmpfTotal .gt l.1 r.1) x y).2 (ix3 b t l)
      = y (ix3 b t (rank (fun l => x (ix3 b t l)) l)) := by
  have e := along_ix3 b t l
  have hr : sortedFrom (fun k k' => FloatOps.cmpfTotal (F := Ideal) (φ := .f32) .gt (x (Shape.Idx.along (s := SL) (ix3 b t l) (2 : Fin 3) k))
      (x (Shape.Idx.along (s := SL) (ix3 b t l) (2 : Fin 3) k')) == 1#1) l = rank (fun l => x (ix3 b t l)) l := by
    unfold rank
    refine congrFun (congrArg sortedFrom (funext fun k => funext fun k' => ?_)) l
    exact congrArg₂ (fun u v : EReal => FloatOps.cmpfTotal (F := Ideal) (φ := .f32) .gt u v == 1#1) (congrArg x (e k)) (congrArg x (e k'))
  unfold Host.sort2
  rw [dif_pos (show 2 < SL.rank by decide)]
  exact ⟨congrArg x ((e _).trans (congrArg (ix3 b t) hr)), congrArg y ((e _).trans (congrArg (ix3 b t) hr))⟩

/-- A cut of the last axis to its first entries, at an index. -/
theorem cut_ix3 {k : ℕ} {α : Type} (x : SL.Idx → α) (h : SL.Slices (fun _ => 0) ⟨3, ![4, 2048, k]⟩)
    (b : Fin 4) (t : Fin 2048) (i : Fin k) (hi : i.val < 256) :
    extractStridedSlice ⟨3, ![4, 2048, k]⟩ (fun _ => 0) x h (ix3 b t i) = x (ix3 b t ⟨i.val, hi⟩) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- The values of a `top_k` along the last axis. -/
theorem topK_values {k : ℕ} (x : FVec Ideal SL .f32) (h : SL.Slices (fun _ => 0) ⟨3, ![4, 2048, k]⟩)
    (b : Fin 4) (t : Fin 2048) (i : Fin k) (hi : i.val < 256) :
    (Host.topK ⟨3, ![4, 2048, k]⟩ 2 (FloatOps.cmpfTotal .gt) x h).1 (ix3 b t i)
      = x (ix3 b t (rank (fun l => x (ix3 b t l)) ⟨i.val, hi⟩)) :=
  (cut_ix3 _ h b t i hi).trans (sort2_at x (fun i => if hd : 2 < SL.rank then iotaInDim SL 32 ⟨2, hd⟩ i else 0#32) b t ⟨i.val, hi⟩).1

/-- The indices of a `top_k` along the last axis. -/
theorem topK_indices {k : ℕ} (x : FVec Ideal SL .f32) (h : SL.Slices (fun _ => 0) ⟨3, ![4, 2048, k]⟩)
    (b : Fin 4) (t : Fin 2048) (i : Fin k) (hi : i.val < 256) :
    (Host.topK ⟨3, ![4, 2048, k]⟩ 2 (FloatOps.cmpfTotal .gt) x h).2 (ix3 b t i)
      = BitVec.ofNat 32 (rank (fun l => x (ix3 b t l)) ⟨i.val, hi⟩).val :=
  (cut_ix3 _ h b t i hi).trans ((sort2_at x (fun i => if hd : 2 < SL.rank then iotaInDim SL 32 ⟨2, hd⟩ i else 0#32) b t ⟨i.val, hi⟩).2.trans (by rw [dif_pos (show 2 < SL.rank by decide)]; rfl))

end Cert.TopLags

end
-- ==== Proof.PreTop.lean ====
/- What the precondition says: of every token, the sixteen greatest logits descend strictly to the seventeenth, and the greatest
   is not +∞. -/
module

public import proofs.«01_k».proof.Pre_top_is_strict
public import proofs.«01_k».proof.Proof.RefLags
public import proofs.«01_k».proof.Proof.TopK
public import Idealize.ShloMosaic.Lib.Tactic

@[expose] public section

set_option maxRecDepth 16384

noncomputable section

namespace Cert.PreTop

open Idealize.ShloMosaic Cert.Pre_top_is_strict

/-- The side conditions the precondition's operations state. -/
instance facts : Cert.Pre_top_is_strict.Facts where
  pads_S4x2048_S4x2304_000_25600 := Cert.ReferenceIdeal.Gen.pads_S4x2048_S4x2304_000_25600
  h_S_ := Cert.ReferenceIdeal.Gen.h_S_
  bcast_S2048_S2048x1_0 := Cert.ReferenceIdeal.Gen.bcast_S2048_S2048x1_0
  bcast_S256_S1x256_1 := Cert.ReferenceIdeal.Gen.bcast_S256_S1x256_1
  bcast_S_S2048x1 := Cert.ReferenceIdeal.Gen.bcast_S_S2048x1
  bcast_S2048x1_S2048x256_0_1 := Cert.ReferenceIdeal.Gen.bcast_S2048x1_S2048x256_0_1
  bcast_S1x256_S2048x256_0_1 := Cert.ReferenceIdeal.Gen.bcast_S1x256_S2048x256_0_1
  bcast_S_S2048x256 := Cert.ReferenceIdeal.Gen.bcast_S_S2048x256
  bcast_S2048x256_S2048x256x1_0_1 := Cert.ReferenceIdeal.Gen.bcast_S2048x256_S2048x256x1_0_1
  pads_S4x2048_S4x2056_000_800 := Cert.ReferenceIdeal.Gen.pads_S4x2048_S4x2056_000_800
  slices_S4x2056_S4x2048_0_0 := Cert.ReferenceIdeal.Gen.slices_S4x2056_S4x2048_0_0
  bcast_S4x2048_S4x1x2048_0_2 := Cert.ReferenceIdeal.Gen.bcast_S4x2048_S4x1x2048_0_2
  slices_S32x1x9_S32x1x1_0_0_0 := Cert.ReferenceIdeal.Gen.slices_S32x1x9_S32x1x1_0_0_0
  shapeCasts_S32x1x1_S32 := Cert.ReferenceIdeal.Gen.shapeCasts_S32x1x1_S32
  bcast_S32_S1x32x1_1 := Cert.ReferenceIdeal.Gen.bcast_S32_S1x32x1_1
  bcast_S4x1x2048_S4x32x2048_0_1_2 := Cert.ReferenceIdeal.Gen.bcast_S4x1x2048_S4x32x2048_0_1_2
  bcast_S1x32x1_S4x32x2048_0_1_2 := Cert.ReferenceIdeal.Gen.bcast_S1x32x1_S4x32x2048_0_1_2
  bcast_S_S4x32x2048 := Cert.ReferenceIdeal.Gen.bcast_S_S4x32x2048
  slices_S4x2056_S4x2048_0_1 := Cert.ReferenceIdeal.Gen.slices_S4x2056_S4x2048_0_1
  slices_S32x1x9_S32x1x1_0_0_1 := Cert.ReferenceIdeal.Gen.slices_S32x1x9_S32x1x1_0_0_1
  slices_S4x2056_S4x2048_0_2 := Cert.ReferenceIdeal.Gen.slices_S4x2056_S4x2048_0_2
  slices_S32x1x9_S32x1x1_0_0_2 := Cert.ReferenceIdeal.Gen.slices_S32x1x9_S32x1x1_0_0_2
  slices_S4x2056_S4x2048_0_3 := Cert.ReferenceIdeal.Gen.slices_S4x2056_S4x2048_0_3
  slices_S32x1x9_S32x1x1_0_0_3 := Cert.ReferenceIdeal.Gen.slices_S32x1x9_S32x1x1_0_0_3
  slices_S4x2056_S4x2048_0_4 := Cert.ReferenceIdeal.Gen.slices_S4x2056_S4x2048_0_4
  slices_S32x1x9_S32x1x1_0_0_4 := Cert.ReferenceIdeal.Gen.slices_S32x1x9_S32x1x1_0_0_4
  slices_S4x2056_S4x2048_0_5 := Cert.ReferenceIdeal.Gen.slices_S4x2056_S4x2048_0_5
  slices_S32x1x9_S32x1x1_0_0_5 := Cert.ReferenceIdeal.Gen.slices_S32x1x9_S32x1x1_0_0_5
  slices_S4x2056_S4x2048_0_6 := Cert.ReferenceIdeal.Gen.slices_S4x2056_S4x2048_0_6
  slices_S32x1x9_S32x1x1_0_0_6 := Cert.ReferenceIdeal.Gen.slices_S32x1x9_S32x1x1_0_0_6
  slices_S4x2056_S4x2048_0_7 := Cert.ReferenceIdeal.Gen.slices_S4x2056_S4x2048_0_7
  slices_S32x1x9_S32x1x1_0_0_7 := Cert.ReferenceIdeal.Gen.slices_S32x1x9_S32x1x1_0_0_7
  slices_S4x2056_S4x2048_0_8 := Cert.ReferenceIdeal.Gen.slices_S4x2056_S4x2048_0_8
  slices_S32x1x9_S32x1x1_0_0_8 := Cert.ReferenceIdeal.Gen.slices_S32x1x9_S32x1x1_0_0_8
  transposes_S4x32x2048_S4x2048x32_0_2_1 := Cert.ReferenceIdeal.Gen.transposes_S4x32x2048_S4x2048x32_0_2_1
  transposes_S32x32_S32x32_1_0 := Cert.ReferenceIdeal.Gen.transposes_S32x32_S32x32_1_0
  bcast_S32_S1x1x32_2 := Cert.ReferenceIdeal.Gen.bcast_S32_S1x1x32_2
  bcast_S1x1x32_S4x2048x32_0_1_2 := Cert.ReferenceIdeal.Gen.bcast_S1x1x32_S4x2048x32_0_1_2
  bcast_S4x2048x256_S4x2048x256x1_0_1_2 := Cert.ReferenceIdeal.Gen.bcast_S4x2048x256_S4x2048x256x1_0_1_2
  shapeCasts_S32x1_S32 := Cert.ReferenceIdeal.Gen.shapeCasts_S32x1_S32
  bcast_S32_S1x1x1x32_3 := Cert.ReferenceIdeal.Gen.bcast_S32_S1x1x1x32_3
  bcast_S4x2048x256x1_S4x2048x256x32_0_1_2_3 := Cert.ReferenceIdeal.Gen.bcast_S4x2048x256x1_S4x2048x256x32_0_1_2_3
  bcast_S1x1x1x32_S4x2048x256x32_0_1_2_3 := Cert.ReferenceIdeal.Gen.bcast_S1x1x1x32_S4x2048x256x32_0_1_2_3
  slices_S257x32_S256x32_1_0 := Cert.ReferenceIdeal.Gen.slices_S257x32_S256x32_1_0
  bcast_S256x32_S1x1x256x32_2_3 := Cert.ReferenceIdeal.Gen.bcast_S256x32_S1x1x256x32_2_3
  bcast_S1x1x256x32_S4x2048x256x32_0_1_2_3 := Cert.ReferenceIdeal.Gen.bcast_S1x1x256x32_S4x2048x256x32_0_1_2_3
  sliceFits_S4x2048x256_S4x2048x17 := by decide
  slices_S4x2048x17_S4x2048x16_0_0_0 := by decide
  slices_S4x2048x17_S4x2048x16_0_0_1 := by decide
  slices_S4x2048x17_S4x2048x1_0_0_0 := by decide
  bcast_S_S4x2048x1 := by decide
  bcast_S4x2048x1_S4x2048x16_0_1_2 := by decide
  gather_S4x2304_S2048x256x1_S4x2048x256_0_1_n_n_1_2_41_wf := Cert.ReferenceIdeal.Gen.gather_S4x2304_S2048x256x1_S4x2048x256_0_1_n_n_1_2_41_wf
  dot_S4x2048x32_S32x32_S4x2048x32_2_0_01_1_n_n_wf := Cert.ReferenceIdeal.Gen.dot_S4x2048x32_S32x32_S4x2048x32_2_0_01_1_n_n_wf
  dot_S4x2048x256x32_S32x32_S4x2048x256x32_3_0_012_1_n_n_wf := Cert.ReferenceIdeal.Gen.dot_S4x2048x256x32_S32x32_S4x2048x256x32_3_0_012_1_n_n_wf
  dot_S4x2048x32_S4x2048x256x32_S4x2048x256_2_3_n_2_01_01_wf := Cert.ReferenceIdeal.Gen.dot_S4x2048x32_S4x2048x256x32_S4x2048x256_2_3_n_2_01_01_wf

/-- The precondition's seventeen greatest logits. -/
def greatest (y : FVec Ideal S4x2048x256 .f32) : FVec Ideal S4x2048x17 .f32 :=
  (Host.topK S4x2048x17 2 (FloatOps.cmpfTotal .gt) y Facts.sliceFits_S4x2048x256_S4x2048x17).1

/-- The precondition of the seventeen greatest logits. -/
def descends (v : FVec Ideal S4x2048x17 .f32) : IVec S4x2048x16 1 :=
  andi (cmpf .ogt (extractStridedSlice S4x2048x16 ![0, 0, 0] v Facts.slices_S4x2048x17_S4x2048x16_0_0_0)
      (extractStridedSlice S4x2048x16 ![0, 0, 1] v Facts.slices_S4x2048x17_S4x2048x16_0_0_1))
    (broadcastInDim S4x2048x16 ![0, 1, 2] Facts.bcast_S4x2048x1_S4x2048x16_0_1_2
      (cmpf .olt (extractStridedSlice S4x2048x1 ![0, 0, 0] v Facts.slices_S4x2048x17_S4x2048x1_0_0_0)
        (broadcastInDim S4x2048x1 ![] Facts.bcast_S_S4x2048x1 (constant S_ .f32 0x7F800000#32))))

variable (x0 : FVec Ideal S4x2048 .f32) (x1 : FVec Ideal S257x32 .f32) (x2 : FVec Ideal S32x1 .f32) (x3 : FVec Ideal S32 .f32)
  (x4 : FVec Ideal S32x1x9 .f32) (x5 : FVec Ideal S32 .f32) (x6 : FVec Ideal S32x32 .f32) (x7 : FVec Ideal S32 .f32)
  (x8 x9 : FVec Ideal S32x32 .f32) (x10 : FVec Ideal S1x32 .f32) (x11 : FVec Ideal S1 .f32)

/-- The precondition computes the reference's own logits. -/
theorem fn_eq : fn x0 x1 x2 x3 x4 x5 x6 x7 x8 x9 x10 x11
    = descends (greatest (Cert.ReferenceIdeal.Read.val_main_v126 (F := Ideal) x0 x1 x2 x3 x4 x5 x6 x7 x8 x9)) := by
  sl_kernel_rfl

/-- The precondition at an index. -/
theorem descends_apply (v : FVec Ideal S4x2048x17 .f32) (b : Fin 4) (t : Fin 2048) (i : Fin 16)
    (h : descends v (ix3 b t i) = 1#1) :
    v (ix3 b t ⟨i.val + 1, by omega⟩) < v (ix3 b t ⟨i.val, by omega⟩) ∧ v (ix3 b t 0) < ⊤ := by
  unfold descends at h
  pointwise at h
  have ht : Ideal.ofBits .f32 0x7F800000#32 = ⊤ := by simp [Ideal.ofBits, Ideal.ieee]
  have e : (⟨1 + i.val, by omega⟩ : Fin 17) = ⟨i.val + 1, by omega⟩ := Fin.ext (Nat.add_comm 1 _)
  rw [ht, e] at h
  by_cases h1 : v (ix3 b t ⟨i.val + 1, by omega⟩) < v (ix3 b t ⟨i.val, by omega⟩)
  · by_cases h2 : v (ix3 b t 0) < ⊤
    · exact ⟨h1, h2⟩
    · simp [IntOp.andi, h2] at h
  · simp [IntOp.andi, h1] at h

/-- Where the precondition holds, the seventeen greatest logits of every token are strict. -/
theorem strict (h : fn x0 x1 x2 x3 x4 x5 x6 x7 x8 x9 x10 x11 = fun _ => 1#1) (b : Fin 4) (t : Fin 2048) :
    TopLags.Strict (Spec.logit (RefLags.args x0 x1 x2 x3 x4 x5 x6 x7 x8 x9 x10 x11) b t) 16 := by
  rw [fn_eq] at h
  have e : (fun l => Cert.ReferenceIdeal.Read.val_main_v126 (F := Ideal) x0 x1 x2 x3 x4 x5 x6 x7 x8 x9 (ix3 b t l))
      = Spec.logit (RefLags.args x0 x1 x2 x3 x4 x5 x6 x7 x8 x9 x10 x11) b t :=
    funext fun l => RefLags.logit x0 x1 x2 x3 x4 x5 x6 x7 x8 x9 x10 x11 b t l
  have g : ∀ i : Fin 17, greatest (Cert.ReferenceIdeal.Read.val_main_v126 (F := Ideal) x0 x1 x2 x3 x4 x5 x6 x7 x8 x9) (ix3 b t i)
      = Spec.logit (RefLags.args x0 x1 x2 x3 x4 x5 x6 x7 x8 x9 x10 x11) b t
        (TopLags.rank (Spec.logit (RefLags.args x0 x1 x2 x3 x4 x5 x6 x7 x8 x9 x10 x11) b t) ⟨i.val, by omega⟩) := fun i => by
    rw [← e]
    exact TopLags.topK_values _ _ b t i (by omega)
  have d := fun i : Fin 16 => descends_apply _ b t i (congrFun h (ix3 b t i))
  refine ⟨fun i j hi hj => ?_, fun i hi => ?_⟩
  · have := (d ⟨i.val, hi⟩).1
    rw [g, g] at this
    have ej : j = ⟨i.val + 1, by omega⟩ := Fin.ext hj
    rw [ej]
    exact this
  · have := (d 0).2
    rw [g] at this
    have ei : i = ⟨0, by omega⟩ := Fin.ext hi
    rw [ei]
    exact this

end Cert.PreTop

end
-- ==== Proof.Chunk.lean ====
/- One block of 128 tokens of the kernel's body, as functions of the values the body has loaded and computed before the
   sixteen blocks: the logits (`lt`), the fifteen rounds that drop the greatest entry (`drops`), the weights (`wts`) and the
   block's part of the mean (`part`). The printed body states these operations sixteen times, at literal offsets; here they are
   stated once, at a variable block. -/
module

public import proofs.«01_k».proof.Proof.Gen.KernelIdeal

@[expose] public section

noncomputable section

namespace Cert.Chunk

open Idealize.ShloMosaic Cert.KernelIdeal Cert.KernelIdeal.Gen

variable {F : FTy → Type} [FloatOps F]

/-- 256 neighbouring entries of the reversed row, from the entry `o`. -/
def seg (xr : FVec F S1x2304 .f32) (o : ℕ) (ho : o ≤ 2047) : FVec F S1x256 .f32 :=
  extractStridedSlice S1x256 ![0, o] xr
    ⟨rfl, fun a => by
      match a with
      | ⟨0, _⟩ => exact Nat.le_refl 1
      | ⟨1, _⟩ => exact Nat.add_le_add_right (m := 2048) (Nat.le_succ_of_le ho) 256⟩

/-- The 32 windows of group `g` of block `c`, side by side. -/
def xrow (xr : FVec F S1x2304 .f32) (c : Fin 16) (g : Fin 4) : FVec F S1x8192 .f32 :=
  concatenate S1x8192 1 (List.ofFn fun n : Fin 32 =>
    (⟨S1x256, seg xr (2047 - 128 * c.val - (4 * g.val + n.val / 8) - 16 * (n.val % 8))
      (Nat.le_trans (Nat.sub_le _ _) (Nat.le_trans (Nat.sub_le _ _) (Nat.sub_le _ _)))⟩ : (s : Shape) × (s.Idx → F .f32)))
    (show Shape.Concatenates (List.replicate 32 S1x256) S1x8192 1 by decide)

/-- The keys of group `g` of block `c`: the key matrix times the embedded lags. -/
def keys (c84 : FVec F S32x8192 .f32) (vw : FVec F S32x1 .f32) (wk : FVec F S32x32 .f32) (xr : FVec F S1x2304 .f32)
    (c : Fin 16) (g : Fin 4) : FVec F S32x8192 .f32 :=
  matmul dot_S32x32_S32x8192_S32x8192_1_0_0_1_n_n none wk
    (addf (mulf (broadcastTo S32x8192 vw broadcasts_S32x1_S32x8192)
      (broadcastTo S32x8192 (xrow xr c g) broadcasts_S1x8192_S32x8192)) c84) (constant S32x8192 .f32 0x00000000#32)

/-- One token's query row. -/
def qrow (q : FVec F S2048x32 .f32) (o : ℕ) (ho : o ≤ 2047) : FVec F S1x32 .f32 :=
  extractStridedSlice S1x32 ![o, 0] q
    ⟨rfl, fun a => by
      match a with
      | ⟨0, _⟩ => exact Nat.succ_le_succ ho
      | ⟨1, _⟩ => exact Nat.le_refl 32⟩

/-- The eight query rows that sub-block `b` of block `c` multiplies. -/
def qrows (q : FVec F S2048x32 .f32) (c b : Fin 16) : FVec F S8x32 .f32 :=
  concatenate S8x32 0 (List.ofFn fun s : Fin 8 =>
    (⟨S1x32, qrow q (128 * c.val + b.val + 16 * s.val) (by omega)⟩ : (s : Shape) × (s.Idx → F .f32)))
    (show Shape.Concatenates (List.replicate 8 S1x32) S8x32 0 by decide)

/-- The keys of sub-block `b` of block `c`. -/
def keysOf (ks : FVec F S32x8192 .f32) (i : Fin 4) : FVec F S32x2048 .f32 :=
  extractStridedSlice S32x2048 ![0, 2048 * i.val] ks
    ⟨rfl, fun a => by
      match a with
      | ⟨0, _⟩ => exact Nat.le_refl 32
      | ⟨1, _⟩ => exact (by omega : 2048 * i.val + 2048 ≤ 8192)⟩

/-- The logits of the eight tokens of sub-block `b` of block `c`, in one row: eight products, of which the mask keeps one. -/
def row (m8 : FVec F S8x2048 .f32) (ks : FVec F S32x8192 .f32) (q : FVec F S2048x32 .f32) (c b : Fin 16) (i : Fin 4) : FVec F S1x2048 .f32 :=
  shapeCast S1x2048 (multiReduction .add [0] S2048
    (mulf (matmul dot_S8x32_S32x2048_S8x2048_1_0_0_1_n_n none (qrows q c b) (keysOf ks i) (constant S8x2048 .f32 0x00000000#32)) m8)
    0x00000000#32 reduces_S8x2048_S2048 (.inl rfl) rfl) shapeCasts_S2048_S1x2048

/-- The sixteen rows of a block, stacked. -/
def stack (r : Fin 16 → FVec F S1x2048 .f32) : FVec F S16x2048 .f32 :=
  concatenate S16x2048 0 (List.ofFn fun b : Fin 16 => (⟨S1x2048, r b⟩ : (s : Shape) × (s.Idx → F .f32)))
    (show Shape.Concatenates (List.replicate 16 S1x2048) S16x2048 0 by decide)

/-- One lane slab of the stacked rows, transposed. -/
def slab (lg : FVec F S16x2048 .f32) (s : Fin 8) : FVec F S256x16 .f32 :=
  transpose S256x16 [1, 0] (extractStridedSlice S16x256 ![0, 256 * s.val] lg
    ⟨rfl, fun a => by
      match a with
      | ⟨0, _⟩ => exact Nat.le_refl 16
      | ⟨1, _⟩ => exact (by omega : 256 * s.val + 256 ≤ 2048)⟩) transposes_S16x256_p1_0_S256x16

/-- The slabs side by side: lag by token. -/
def turn (lg : FVec F S16x2048 .f32) : FVec F S256x128 .f32 :=
  concatenate S256x128 1 (List.ofFn fun s : Fin 8 => (⟨S256x16, slab lg s⟩ : (s : Shape) × (s.Idx → F .f32)))
    (show Shape.Concatenates (List.replicate 8 S256x16) S256x128 1 by decide)

/-- The logits of block `c`: lag by token. -/
def lt (c84 : FVec F S32x8192 .f32) (m8 : FVec F S8x2048 .f32) (vw : FVec F S32x1 .f32) (wk : FVec F S32x32 .f32)
    (xr : FVec F S1x2304 .f32) (q : FVec F S2048x32 .f32) (c : Fin 16) : FVec F S256x128 .f32 :=
  turn (stack fun b => row m8 (keys c84 vw wk xr c ⟨b.val / 4, by omega⟩) q c b ⟨b.val % 4, by omega⟩)

/-- The greatest entry of each column. -/
def peak (x : FVec F S256x128 .f32) : FVec F S1x128 .f32 :=
  shapeCast S1x128 (multiReduction .maximumf [0] S128 x 0xFF800000#32 reduces_S256x128_S128 (.inl rfl) rfl) shapeCasts_S128_S1x128

/-- Every column with its greatest entries replaced by −∞. -/
def drop (x : FVec F S256x128 .f32) : FVec F S256x128 .f32 :=
  select (cmpf .oge x (broadcastTo S256x128 (peak x) broadcasts_S1x128_S256x128))
    (broadcast S256x128 (Scalar.ofBits .f32 0xFF800000#32)) x

/-- `j` such rounds. -/
def drops (x : FVec F S256x128 .f32) : ℕ → FVec F S256x128 .f32
  | 0 => x
  | j + 1 => drop (drops x j)

/-- The exponentials of the entries at or above the threshold `v`. -/
def exps (x : FVec F S256x128 .f32) (v : FVec F S1x128 .f32) : FVec F S256x128 .f32 :=
  select (cmpf .oge x (broadcastTo S256x128 v broadcasts_S1x128_S256x128))
    (exp (subf x (broadcastTo S256x128 (peak x) broadcasts_S1x128_S256x128))) (broadcast S256x128 (Scalar.ofBits .f32 0x00000000#32))

/-- Each column divided by its sum. -/
def norm (e : FVec F S256x128 .f32) : FVec F S256x128 .f32 :=
  mulf e (broadcastTo S256x128 (divf (broadcast S1x128 (Scalar.ofBits .f32 0x3F800000#32))
    (shapeCast S1x128 (multiReduction .add [0] S128 e 0x00000000#32 reduces_S256x128_S128 (.inl rfl) rfl) shapeCasts_S128_S1x128))
    broadcasts_S1x128_S256x128)

/-- The weights of a block from its logits. -/
def wts (x : FVec F S256x128 .f32) : FVec F S256x128 .f32 := norm (exps x (peak (drops x 15)))

/-- The block's part of the mean, from its weights and the shifted rows. -/
def part (w : FVec F S256x128 .f32) (yt : FVec F S256x2048 .f32) (c : Fin 16) : FVec F S1x128 .f32 :=
  shapeCast S1x128 (multiReduction .add [0] S128
    (mulf w (extractStridedSlice S256x128 ![0, 128 * c.val] yt
      ⟨rfl, fun a => by
        match a with
        | ⟨0, _⟩ => exact Nat.le_refl 256
        | ⟨1, _⟩ => exact (by omega : 128 * c.val + 128 ≤ 2048)⟩))
    0x00000000#32 reduces_S256x128_S128 (.inl rfl) rfl) shapeCasts_S128_S1x128

/-- The block of the weights array that is stored. -/
def stored (w : FVec F S256x128 .f32) : FVec F S1x128x256 .f32 :=
  shapeCast S1x128x256 (transpose S128x256 [1, 0] w transposes_S256x128_p1_0_S128x256) shapeCasts_S128x256_S1x128x256

end Cert.Chunk

end
-- ==== Proof.Head.lean ====
/- What the kernel's body computes once, before and after the sixteen blocks: the convolution, the context, the queries, the
   bias row and the shifted rows; and from them the two blocks it stores, as functions of the loaded values. -/
module

public import proofs.«01_k».proof.Proof.Chunk

@[expose] public section

noncomputable section

namespace Cert.Head

open Idealize.ShloMosaic Cert.KernelIdeal Cert.KernelIdeal.Gen

variable {F : FTy → Type} [FloatOps F]

/-- A loaded row. -/
def line (x : FVec F S1x1x2304 .f32) : FVec F S1x2304 .f32 := shapeCast S1x2304 x shapeCasts_S1x1x2304_S1x2304

/-- The row, rounded to half width and widened again. -/
def rounded (x : FVec F S1x1x2304 .f32) : FVec F S1x2304 .f32 :=
  extf .f32 (truncf .bf16 (line x) bitsLt_bf16_f32) bitsLt_bf16_f32

/-- The convolution's weights, rounded to half width and widened again. -/
def taps (cw : FVec F S32x9 .f32) : FVec F S32x9 .f32 :=
  extf .f32 (truncf .bf16 (shapeCast S32x9 cw shapeCasts_S32x9_S32x9) bitsLt_bf16_f32) bitsLt_bf16_f32

/-- One tap of the convolution: a column of weights times the row shifted by `k`. -/
def tap (cw : FVec F S32x9 .f32) (x : FVec F S1x1x2304 .f32) (k : ℕ) (hk : k ≤ 8) : FVec F S32x2048 .f32 :=
  mulf (broadcastTo S32x2048 (shapeCast S32x1 (shapeCast S32 (extractStridedSlice S32x1 ![0, k] (taps cw)
      ⟨rfl, fun a => by
        match a with
        | ⟨0, _⟩ => exact Nat.le_refl 32
        | ⟨1, _⟩ => exact Nat.succ_le_succ hk⟩) shapeCasts_S32x1_S32) shapeCasts_S32_S32x1) broadcasts_S32x1_S32x2048)
    (broadcastTo S32x2048 (extractStridedSlice S1x2048 ![0, 248 + k] (rounded x)
      ⟨rfl, fun a => by
        match a with
        | ⟨0, _⟩ => exact Nat.le_refl 1
        | ⟨1, _⟩ => exact (by omega : 248 + k + 2048 ≤ 2304)⟩) broadcasts_S1x2048_S32x2048)

/-- The convolution's first `n` taps on top of its bias. -/
def acc (cw : FVec F S32x9 .f32) (cb : FVec F S32x1 .f32) (x : FVec F S1x1x2304 .f32) : (n : ℕ) → n ≤ 9 → FVec F S32x2048 .f32
  | 0, _ => broadcastTo S32x2048 (shapeCast S32x1 (shapeCast S32x1 cb shapeCasts_S32x1_S32x1) shapeCasts_S32x1_S32x1) broadcasts_S32x1_S32x2048
  | n + 1, h => addf (acc cw cb x n (Nat.le_of_succ_le h)) (tap cw x n (Nat.le_of_succ_le_succ h))

/-- The context: the projected convolution. -/
def ctx (x : FVec F S1x1x2304 .f32) (cw : FVec F S32x9 .f32) (cb : FVec F S32x1 .f32) (pw : FVec F S32x32 .f32) (pb : FVec F S32x1 .f32) :
    FVec F S32x2048 .f32 :=
  addf (matmul dot_S32x32_S32x2048_S32x2048_1_0_0_1_n_n none pw (acc cw cb x 9 (Nat.le_refl 9)) (constant S32x2048 .f32 0x00000000#32))
    (broadcastTo S32x2048 (shapeCast S32x1 pb shapeCasts_S32x1_S32x1) broadcasts_S32x1_S32x2048)

/-- The queries, token by token. -/
def queries (wq : FVec F S32x32 .f32) (cx : FVec F S32x2048 .f32) : FVec F S2048x32 .f32 :=
  transpose S2048x32 [1, 0] (matmul dot_S32x32_S32x2048_S32x2048_1_0_0_1_n_n none wq cx (constant S32x2048 .f32 0x00000000#32))
    transposes_S32x2048_p1_0_S2048x32

/-- The bias row: what the context adds to the mean. -/
def bias (bw : FVec F S1x32 .f32) (bb : FVec F S1x1 .f32) (cx : FVec F S32x2048 .f32) : FVec F S1x2048 .f32 :=
  addf (matmul dot_S1x32_S32x2048_S1x2048_1_0_0_1_n_n none bw cx (constant S1x2048 .f32 0x00000000#32))
    (broadcastTo S1x2048 (shapeCast S1x1 bb shapeCasts_S1x1_S1x1) broadcasts_S1x1_S1x2048)

/-- The row with zeros behind it. -/
def padded (x : FVec F S1x1x2304 .f32) : FVec F S1x4096 .f32 :=
  concatenate S1x4096 1 [⟨S1x2304, line x⟩, ⟨S1x1792, broadcast S1x1792 (Scalar.ofBits .f32 0x00000000#32)⟩] concatenates_S1x2304_S1x1792_S1x4096_d1

/-- The shifted rows: one for each lag. -/
def shifts (x : FVec F S1x1x2304 .f32) : FVec F S256x2048 .f32 :=
  extractStridedSlice S256x2048 ![0, 0] (dynamicRotate 1 3841#32 (some (1, 0))
    (broadcastTo S256x4096 (shapeCast S1x4096 (padded x) shapeCasts_S1x4096_S1x4096) broadcasts_S1x4096_S256x4096)
    rotates_S256x4096_d1s1a0) slices_S256x4096_o0_0_S256x2048

/-- The weights of block `n`, from the loaded values. -/
def weights (x xr : FVec F S1x1x2304 .f32) (c84 : FVec F S32x8192 .f32) (m8 : FVec F S8x2048 .f32) (vw : FVec F S32x1 .f32)
    (cw : FVec F S32x9 .f32) (cb : FVec F S32x1 .f32) (pw : FVec F S32x32 .f32) (pb : FVec F S32x1 .f32) (wq wk : FVec F S32x32 .f32)
    (n : Fin 16) : FVec F S256x128 .f32 :=
  Chunk.wts (Chunk.lt (shapeCast S32x8192 c84 shapeCasts_S32x8192_S32x8192) (shapeCast S8x2048 m8 shapeCasts_S8x2048_S8x2048)
    vw wk (line xr) (queries wq (ctx x cw cb pw pb)) n)

/-- The sixteen parts of the mean, side by side. -/
def parts (w : Fin 16 → FVec F S256x128 .f32) (x : FVec F S1x1x2304 .f32) : FVec F S1x2048 .f32 :=
  concatenate S1x2048 1 (List.ofFn fun n : Fin 16 =>
      (⟨S1x128, Chunk.part (w n) (shifts x) n⟩ : (s : Shape) × (s.Idx → F .f32)))
    (show Shape.Concatenates (List.replicate 16 S1x128) S1x2048 1 by decide)

/-- The block of the mean that is stored, from the sixteen blocks' weights. -/
def mean (w : Fin 16 → FVec F S256x128 .f32) (x : FVec F S1x1x2304 .f32) (b : FVec F S1x2048 .f32) : FVec F S1x1x2048 .f32 :=
  shapeCast S1x1x2048 (addf (parts w x) b) shapeCasts_S1x2048_S1x1x2048

end Cert.Head

end
-- ==== Proof.Pieces.lean ====
/- What the kernel's run leaves at a grid point, in the words of `Head` and `Chunk`: the one store of the mean's block and the
   sixteen stores of the weights' block, last store first. -/
module

public import proofs.«01_k».proof.Proof.Head
public import proofs.«01_k».proof.Proof.Gen.KernelIdeal.Frame.RunA

@[expose] public section

noncomputable section

namespace Cert.Pieces

open Idealize.ShloMosaic Idealize.ShloMosaic.TcCoe Idealize.SL.Sem Cert.KernelIdeal Cert.KernelIdeal.Gen

variable {F : FTy → Type} [FloatOps F]
variable (c : Dev nD) (i : grid0.Coords) (arg2 : Memref sig .tc .vmem S1x1x2304 .f32) (harg2 : arg2.IsWhole) (arg3 : Memref sig .tc .vmem S1x1x2560 .f32) (harg3 : arg3.IsWhole) (arg4 : Memref sig .tc .vmem S32x8192 .f32) (harg4 : arg4.IsWhole) (arg5 : Memref sig .tc .vmem S8x2048 .f32) (harg5 : arg5.IsWhole) (arg6 : Memref sig .tc .vmem S32x1 .f32) (harg6 : arg6.IsWhole) (arg7 : Memref sig .tc .vmem S32x9 .f32) (harg7 : arg7.IsWhole) (arg8 : Memref sig .tc .vmem S32x1 .f32) (harg8 : arg8.IsWhole) (arg9 : Memref sig .tc .vmem S32x32 .f32) (harg9 : arg9.IsWhole) (arg10 : Memref sig .tc .vmem S32x1 .f32) (harg10 : arg10.IsWhole) (arg11 : Memref sig .tc .vmem S32x32 .f32) (harg11 : arg11.IsWhole) (arg12 : Memref sig .tc .vmem S32x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S1x1x2048 .f32) (harg15 : arg15.IsWhole) (arg16 : Memref sig .tc .vmem S1x2048x256 .f32) (harg16 : arg16.IsWhole) (x0 : Vec F S1x1x2304 .f32) (x1 : Vec F S1x1x2560 .f32) (x2 : Vec F S32x8192 .f32) (x3 : Vec F S8x2048 .f32) (x4 : Vec F S32x1 .f32) (x5 : Vec F S32x9 .f32) (x6 : Vec F S32x1 .f32) (x7 : Vec F S32x32 .f32) (x8 : Vec F S32x1 .f32) (x9 : Vec F S32x32 .f32) (x10 : Vec F S32x32 .f32) (x11 : Vec F S1x32 .f32) (x12 : Vec F S1x1 .f32)

/-- The sixteen stores of the weights: store `n` from the last holds the rows of block `15 − n`. -/
theorem stores14 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.1
    = List.ofFn fun n : Fin 16 => (⟨Rect.unit ![0, 128 * (15 - n.val), 0] S1x128x256.size (fun a => by
        match a with
        | ⟨0, _⟩ => exact Nat.le_refl 1
        | ⟨1, _⟩ => exact (by omega : 128 * (15 - n.val) + 128 ≤ 2048)
        | ⟨2, _⟩ => exact Nat.le_refl 256),
      Chunk.stored (Head.weights (View.readAt (Elt F) arg2.view (Rect.unit (s := S1x1x2304) (k0_off1 i) S1x1x2304.size (k0_off1_inb i)).toLoadRect (harg2.unread x0))
      (View.readAt (Elt F) arg3.view (Rect.unit (s := S1x1x2560) (k0_off2 i) S1x1x2304.size (k0_off2_inb i)).toLoadRect (harg3.unread x1))
      (View.readAt (Elt F) arg4.view (Rect.unit (s := S32x8192) ![0, 0] S32x8192.size inb_S32x8192_S32x8192_0_0).toLoadRect (harg4.unread x2))
      (View.readAt (Elt F) arg5.view (Rect.unit (s := S8x2048) ![0, 0] S8x2048.size inb_S8x2048_S8x2048_0_0).toLoadRect (harg5.unread x3))
      (View.readAt (Elt F) arg6.view (Rect.unit (s := S32x1) ![0, 0] S32x1.size inb_S32x1_S32x1_0_0).toLoadRect (harg6.unread x4))
      (View.readAt (Elt F) arg7.view (Rect.unit (s := S32x9) ![0, 0] S32x9.size inb_S32x9_S32x9_0_0).toLoadRect (harg7.unread x5))
      (View.readAt (Elt F) arg8.view (Rect.unit (s := S32x1) ![0, 0] S32x1.size inb_S32x1_S32x1_0_0).toLoadRect (harg8.unread x6))
      (View.readAt (Elt F) arg9.view (Rect.unit (s := S32x32) ![0, 0] S32x32.size inb_S32x32_S32x32_0_0).toLoadRect (harg9.unread x7))
      (View.readAt (Elt F) arg10.view (Rect.unit (s := S32x1) ![0, 0] S32x1.size inb_S32x1_S32x1_0_0).toLoadRect (harg10.unread x8))
      (View.readAt (Elt F) arg11.view (Rect.unit (s := S32x32) ![0, 0] S32x32.size inb_S32x32_S32x32_0_0).toLoadRect (harg11.unread x9))
      (View.readAt (Elt F) arg12.view (Rect.unit (s := S32x32) ![0, 0] S32x32.size inb_S32x32_S32x32_0_0).toLoadRect (harg12.unread x10)) ⟨15 - n.val, by omega⟩)⟩ : View.Piece (Elt F) S1x2048x256 .f32) := by
  sl_kernel_rfl

/-- The one store of the mean. -/
theorem stores13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1
    = [(⟨Rect.unit ![0, 0, 0] S1x1x2048.size inb_S1x1x2048_S1x1x2048_0_0_0,
      Head.mean (fun n => Head.weights (View.readAt (Elt F) arg2.view (Rect.unit (s := S1x1x2304) (k0_off1 i) S1x1x2304.size (k0_off1_inb i)).toLoadRect (harg2.unread x0))
      (View.readAt (Elt F) arg3.view (Rect.unit (s := S1x1x2560) (k0_off2 i) S1x1x2304.size (k0_off2_inb i)).toLoadRect (harg3.unread x1))
      (View.readAt (Elt F) arg4.view (Rect.unit (s := S32x8192) ![0, 0] S32x8192.size inb_S32x8192_S32x8192_0_0).toLoadRect (harg4.unread x2))
      (View.readAt (Elt F) arg5.view (Rect.unit (s := S8x2048) ![0, 0] S8x2048.size inb_S8x2048_S8x2048_0_0).toLoadRect (harg5.unread x3))
      (View.readAt (Elt F) arg6.view (Rect.unit (s := S32x1) ![0, 0] S32x1.size inb_S32x1_S32x1_0_0).toLoadRect (harg6.unread x4))
      (View.readAt (Elt F) arg7.view (Rect.unit (s := S32x9) ![0, 0] S32x9.size inb_S32x9_S32x9_0_0).toLoadRect (harg7.unread x5))
      (View.readAt (Elt F) arg8.view (Rect.unit (s := S32x1) ![0, 0] S32x1.size inb_S32x1_S32x1_0_0).toLoadRect (harg8.unread x6))
      (View.readAt (Elt F) arg9.view (Rect.unit (s := S32x32) ![0, 0] S32x32.size inb_S32x32_S32x32_0_0).toLoadRect (harg9.unread x7))
      (View.readAt (Elt F) arg10.view (Rect.unit (s := S32x1) ![0, 0] S32x1.size inb_S32x1_S32x1_0_0).toLoadRect (harg10.unread x8))
      (View.readAt (Elt F) arg11.view (Rect.unit (s := S32x32) ![0, 0] S32x32.size inb_S32x32_S32x32_0_0).toLoadRect (harg11.unread x9))
      (View.readAt (Elt F) arg12.view (Rect.unit (s := S32x32) ![0, 0] S32x32.size inb_S32x32_S32x32_0_0).toLoadRect (harg12.unread x10)) n) (View.readAt (Elt F) arg2.view (Rect.unit (s := S1x1x2304) (k0_off1 i) S1x1x2304.size (k0_off1_inb i)).toLoadRect (harg2.unread x0))
        (Head.bias (View.readAt (Elt F) arg13.view (Rect.unit (s := S1x32) ![0, 0] S1x32.size inb_S1x32_S1x32_0_0).toLoadRect (harg13.unread x11)) (View.readAt (Elt F) arg14.view (Rect.unit (s := S1x1) ![0, 0] S1x1.size inb_S1x1_S1x1_0_0).toLoadRect (harg14.unread x12)) (Head.ctx (View.readAt (Elt F) arg2.view (Rect.unit (s := S1x1x2304) (k0_off1 i) S1x1x2304.size (k0_off1_inb i)).toLoadRect (harg2.unread x0)) (View.readAt (Elt F) arg7.view (Rect.unit (s := S32x9) ![0, 0] S32x9.size inb_S32x9_S32x9_0_0).toLoadRect (harg7.unread x5)) (View.readAt (Elt F) arg8.view (Rect.unit (s := S32x1) ![0, 0] S32x1.size inb_S32x1_S32x1_0_0).toLoadRect (harg8.unread x6)) (View.readAt (Elt F) arg9.view (Rect.unit (s := S32x32) ![0, 0] S32x32.size inb_S32x32_S32x32_0_0).toLoadRect (harg9.unread x7)) (View.readAt (Elt F) arg10.view (Rect.unit (s := S32x1) ![0, 0] S32x1.size inb_S32x1_S32x1_0_0).toLoadRect (harg10.unread x8))))⟩ : View.Piece (Elt F) S1x1x2048 .f32)] := by
  sl_kernel_rfl

end Cert.Pieces

end
-- ==== Proof.Words.lean ====
/- Words read as numbers: the indicator of two equal positions, and the shift that divides a position by 256. -/
module

public import Idealize.ShloMosaic.PureOps.Ideal

@[expose] public section

noncomputable section

namespace Cert.Words

open Idealize.ShloMosaic

/-- An indicator of equal positions, as the number it is converted to. -/
theorem indicator (p l : ℕ) (hp : p < 4294967296) (hl : l < 4294967296) :
    FloatOps.uitofp (F := Ideal) FTy.f32 (IntOp.cmpi .eq (BitVec.ofNat 32 p) (BitVec.ofNat 32 l)) = if p = l then 1 else 0 := by
  have e : (BitVec.ofNat 32 p = BitVec.ofNat 32 l) ↔ p = l := by
    rw [← BitVec.toNat_inj, BitVec.toNat_ofNat, BitVec.toNat_ofNat, Nat.mod_eq_of_lt (by omega), Nat.mod_eq_of_lt (by omega)]
  by_cases h : p = l
  · subst h
    rw [if_pos rfl]
    simp [IntOp.cmpi, FloatOps.uitofp]
  · rw [if_neg h]
    have : ¬ (BitVec.ofNat 32 p = BitVec.ofNat 32 l) := fun h' => h (e.mp h')
    simp [IntOp.cmpi, FloatOps.uitofp, this]

/-- Shifting a position right by 8 divides it by 256. -/
theorem shift8 : ∀ j : Fin 2048, IntOp.shrsi .host (BitVec.ofNat 32 j.val) 8#32 = BitVec.ofNat 32 (j.val / 256) := by
  decide +kernel

end Cert.Words

end
-- ==== Proof.Blocks.lean ====
/- The blocks the pipeline hands the body at a grid point, entry by entry: each is the problem's arrays as launched. -/
module

public import proofs.«01_k».proof.Proof.Spec
public import proofs.«01_k».proof.Proof.Words
public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.Blocks

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD) (t : Fin cfg0.N)

/-- The problem's arrays, from the arguments' buffers. -/
def args : Spec.Args where
  x b t := m ((c : Thread nD τ).loc main_arg0) (ix2 b t)
  le l e := m ((c : Thread nD τ).loc main_arg1) (ix2 l e)
  vw e := m ((c : Thread nD τ).loc main_arg2) (ix2 e 0)
  vb e := m ((c : Thread nD τ).loc main_arg3) (ix1 e)
  cw c' k := m ((c : Thread nD τ).loc main_arg4) (ix3 c' 0 k)
  cb c' := m ((c : Thread nD τ).loc main_arg5) (ix1 c')
  pw d c' := m ((c : Thread nD τ).loc main_arg6) (ix2 d c')
  pb d := m ((c : Thread nD τ).loc main_arg7) (ix1 d)
  wq d e := m ((c : Thread nD τ).loc main_arg8) (ix2 d e)
  wk d e := m ((c : Thread nD τ).loc main_arg9) (ix2 d e)
  bw d := m ((c : Thread nD τ).loc main_arg10) (ix2 0 d)
  bb := m ((c : Thread nD τ).loc main_arg11) (ix1 0)

/-- The series that grid point `t` works on. -/
def series : Fin 4 := ⟨t.val, t.isLt.trans_eq N_0⟩

theorem index0 : ∀ t : Fin cfg0.N, win0_0.index t = ![t.val, 0, 0] :=
  (by decide +kernel : ∀ t : Fin grid0.N, win0_0.index t = ![t.val, 0, 0])

theorem index1 : ∀ t : Fin cfg0.N, win0_1.index t = ![t.val, 0, 0] :=
  (by decide +kernel : ∀ t : Fin grid0.N, win0_1.index t = ![t.val, 0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem index7 : ∀ t : Fin cfg0.N, win0_7.index t = ![0, 0] :=
  (by decide +kernel : ∀ t : Fin grid0.N, win0_7.index t = ![0, 0])

theorem index8 : ∀ t : Fin cfg0.N, win0_8.index t = ![0, 0] :=
  (by decide +kernel : ∀ t : Fin grid0.N, win0_8.index t = ![0, 0])

theorem index9 : ∀ t : Fin cfg0.N, win0_9.index t = ![0, 0] :=
  (by decide +kernel : ∀ t : Fin grid0.N, win0_9.index t = ![0, 0])

theorem index10 : ∀ t : Fin cfg0.N, win0_10.index t = ![0, 0] :=
  (by decide +kernel : ∀ t : Fin grid0.N, win0_10.index t = ![0, 0])

theorem index11 : ∀ t : Fin cfg0.N, win0_11.index t = ![0, 0] :=
  (by decide +kernel : ∀ t : Fin grid0.N, win0_11.index t = ![0, 0])

theorem index12 : ∀ t : Fin cfg0.N, win0_12.index t = ![0, 0] :=
  (by decide +kernel : ∀ t : Fin grid0.N, win0_12.index t = ![0, 0])

/-- The zero the padding writes. -/
theorem zero : sitofp (F := Ideal) .f32 (constantI S_ 32 0#32) = fun _ => (0 : EReal) := by
  funext i
  show FloatOps.sitofp (F := Ideal) .f32 (0#32) = 0
  simp [FloatOps.sitofp]

/-- The series with 256 zeros before it, as the host pads it. -/
def padded (x : FVec Ideal S4x2048 .f32) : FVec Ideal S4x2304 .f32 :=
  pad S4x2304 ![0, 256] ![0, 0] ![0, 0] x (sitofp .f32 (constantI S_ 32 0#32)) pads_S4x2048_S4x2304_000_25600 h_S_

theorem padded_apply (b : Fin 4) (j : Fin 2304) :
    padded (m ((c : Thread nD τ).loc main_arg0)) (ix2 b j) = Spec.xf (args m c) b j.val := by
  unfold padded Spec.xf
  rw [zero]
  pointwise
  by_cases h : 256 ≤ j.val
  · rw [dif_pos ⟨h, by omega⟩, dif_pos h]
    rfl
  · rw [dif_neg (fun h' => h h'.1), dif_neg h]

/-- The padded series. -/
theorem blk0 (j : Fin 2304) : iblk m c 0 t (ix3 0 0 j) = Spec.xf (args m c) (series t) j.val := by
  rw [← padded_apply]
  have e : iblk m c 0 t (ix3 0 0 j) = V m c main_call0_v3 (ix3 (series t) 0 j) := by
    blk_ext [iblk, V, index0 t, series]
  rw [e]
  entry_read
  show shapeCast S4x1x2304 (padded (m ((c : Thread nD τ).loc main_arg0))) shapeCasts_S4x2304_S4x1x2304 (ix3 (series t) 0 j) = _
  pointwise

/-- The padded series backwards, behind 255 zeros. -/
theorem blk1 (j : Fin 2560) (hj : 255 ≤ j.val) (hj' : j.val < 2559) :
    iblk m c 1 t (ix3 0 0 j) = Spec.xf (args m c) (series t) (2558 - j.val) := by
  have h := padded_apply m c (series t) ⟨2558 - j.val, by omega⟩
  rw [← h]
  have e : iblk m c 1 t (ix3 0 0 j) = V m c main_call0_v4 (ix3 (series t) 0 j) := by
    blk_ext [iblk, V, index1 t, series]
  rw [e]
  entry_read
  show shapeCast S4x1x2560 (pad S4x2560 ![0, 255] ![0, 1] ![0, 0] (Host.reverse [1] (padded (m ((c : Thread nD τ).loc main_arg0))))
    (sitofp .f32 (constantI S_ 32 0#32)) pads_S4x2304_S4x2560_000_25510 h_S_) shapeCasts_S4x2560_S4x1x2560 (ix3 (series t) 0 j) = _
  rw [zero]
  pointwise
  rw [dif_pos ⟨hj, by omega⟩]
  exact congrArg (fun k => padded (m ((c : Thread nD τ).loc main_arg0)) (ix2 (series t) k)) (Fin.ext (show 2304 - (j.val - 255 + 1) = 2558 - j.val by omega))

/-- The lag embedding and its bias, 32 times side by side, as the host lays it out. -/
def lags (le : FVec Ideal S257x32 .f32) (vb : FVec Ideal S32 .f32) : FVec Ideal S32x8192 .f32 :=
  shapeCast S32x8192 (broadcastInDim S1x32x32x256 ![0, 1, 2, 3] bcast_S1x32x1x256_S1x32x32x256_0_1_2_3 (shapeCast S1x32x1x256
    (transpose S32x256 [1, 0] (addf (extractStridedSlice S256x32 ![1, 0] le slices_S257x32_S256x32_1_0)
      (broadcastInDim S256x32 ![0, 1] bcast_S1x32_S256x32_0_1 (broadcastInDim S1x32 ![1] bcast_S32_S1x32_1 vb)))
      transposes_S256x32_S32x256_1_0) shapeCasts_S32x256_S1x32x1x256)) shapeCasts_S1x32x32x256_S32x8192

theorem lags_apply (le : FVec Ideal S257x32 .f32) (vb : FVec Ideal S32 .f32) (e : Fin 32) (j : Fin 8192) :
    lags le vb (ix2 e j) = le (ix2 ⟨j.val % 256 + 1, by omega⟩ e) + vb (ix1 e) := by
  unfold lags
  pointwise
  exact congrArg (fun k => le (ix2 k e) + vb (ix1 e)) (Fin.ext (Nat.add_comm 1 _))

/-- The lag embedding and its bias, 32 times side by side. -/
theorem blk2 (e : Fin 32) (j : Fin 8192) : iblk m c 2 t (ix2 e j) = (args m c).le ⟨j.val % 256 + 1, by omega⟩ e + (args m c).vb e := by
  have h : iblk m c 2 t (ix2 e j) = V m c main_call0_v12 (ix2 e j) := by
    blk_ext [iblk, V, index2 t]
  rw [h]
  entry_read
  exact lags_apply (m ((c : Thread nD τ).loc main_arg1)) (m ((c : Thread nD τ).loc main_arg3)) e j

/-- The mask that keeps, of a row of 2048, the run of 256 a token owns. -/
theorem blk3 (s : Fin 8) (j : Fin 2048) : iblk m c 3 t (ix2 s j) = if j.val / 256 = s.val then (1 : EReal) else 0 := by
  have h : iblk m c 3 t (ix2 s j) = V m c main_call0_v22 (ix2 s j) := by
    blk_ext [iblk, V, index3 t]
  rw [h]
  entry_read
  show uitofp (F := Ideal) FTy.f32 (cmpi CmpIPredicate.eq (broadcastInDim S8x2048 ![0, 1] bcast_S1x2048_S8x2048_0_1
    (Host.shrsi (broadcastInDim S1x2048 ![1] bcast_S2048_S1x2048_1 (iotaInDim S2048 32 0)) (broadcastInDim S1x2048 ![] bcast_S_S1x2048 (constantI S_ 32 8#32))))
    (broadcastInDim S8x2048 ![0, 1] bcast_S8x1_S8x2048_0_1 (broadcastInDim S8x1 ![0] bcast_S8_S8x1_0 (iotaInDim S8 32 0)))) (ix2 s j) = _
  pointwise
  rw [Words.shift8 j, Words.indicator _ _ (by omega) (by omega)]

/-- The value map. -/
theorem blk4 (e : Fin 32) : iblk m c 4 t (ix2 e 0) = (args m c).vw e := by
  have h : iblk m c 4 t (ix2 e 0) = V m c main_arg2 (ix2 e 0) := by
    blk_ext [iblk, V, index4 t]
  rw [h]
  exact congrFun (V_main_arg2 m c) _

/-- The convolution. -/
theorem blk5 (d : Fin 32) (k : Fin 9) : iblk m c 5 t (ix2 d k) = (args m c).cw d k := by
  have h : iblk m c 5 t (ix2 d k) = V m c main_call0_v23 (ix2 d k) := by
    blk_ext [iblk, V, index5 t]
  rw [h]
  entry_read
  show shapeCast S32x9 (m ((c : Thread nD τ).loc main_arg4)) shapeCasts_S32x1x9_S32x9 (ix2 d k) = _
  pointwise
  rfl

/-- The convolution's bias. -/
theorem blk6 (d : Fin 32) : iblk m c 6 t (ix2 d 0) = (args m c).cb d := by
  have h : iblk m c 6 t (ix2 d 0) = V m c main_call0_v24 (ix2 d 0) := by
    blk_ext [iblk, V, index6 t]
  rw [h]
  entry_read
  show shapeCast S32x1 (m ((c : Thread nD τ).loc main_arg5)) shapeCasts_S32_S32x1 (ix2 d 0) = _
  pointwise
  rfl

/-- The context projection. -/
theorem blk7 (d e : Fin 32) : iblk m c 7 t (ix2 d e) = (args m c).pw d e := by
  have h : iblk m c 7 t (ix2 d e) = V m c main_arg6 (ix2 d e) := by
    blk_ext [iblk, V, index7 t]
  rw [h]
  exact congrFun (V_main_arg6 m c) _

/-- The context projection's bias. -/
theorem blk8 (d : Fin 32) : iblk m c 8 t (ix2 d 0) = (args m c).pb d := by
  have h : iblk m c 8 t (ix2 d 0) = V m c main_call0_v25 (ix2 d 0) := by
    blk_ext [iblk, V, index8 t]
  rw [h]
  entry_read
  show shapeCast S32x1 (m ((c : Thread nD τ).loc main_arg7)) shapeCasts_S32_S32x1 (ix2 d 0) = _
  pointwise
  rfl

/-- The query matrix. -/
theorem blk9 (d e : Fin 32) : iblk m c 9 t (ix2 d e) = (args m c).wq d e := by
  have h : iblk m c 9 t (ix2 d e) = V m c main_arg8 (ix2 d e) := by
    blk_ext [iblk, V, index9 t]
  rw [h]
  exact congrFun (V_main_arg8 m c) _

/-- The key matrix. -/
theorem blk10 (d e : Fin 32) : iblk m c 10 t (ix2 d e) = (args m c).wk d e := by
  have h : iblk m c 10 t (ix2 d e) = V m c main_arg9 (ix2 d e) := by
    blk_ext [iblk, V, index10 t]
  rw [h]
  exact congrFun (V_main_arg9 m c) _

/-- The output row. -/
theorem blk11 (d : Fin 32) : iblk m c 11 t (ix2 0 d) = (args m c).bw d := by
  have h : iblk m c 11 t (ix2 0 d) = V m c main_arg10 (ix2 0 d) := by
    blk_ext [iblk, V, index11 t]
  rw [h]
  exact congrFun (V_main_arg10 m c) _

/-- The output bias. -/
theorem blk12 : iblk m c 12 t (ix2 0 0) = (args m c).bb := by
  have h : iblk m c 12 t (ix2 0 0) = V m c main_call0_v26 (ix2 0 0) := by
    blk_ext [iblk, V, index12 t]
  rw [h]
  entry_read
  show shapeCast S1x1 (m ((c : Thread nD τ).loc main_arg11)) shapeCasts_S1_S1x1 (ix2 0 0) = _
  pointwise
  rfl

end Cert.Blocks

end
-- ==== Proof.ChunkAt.lean ====
/- One block of 128 tokens read at an index, over the extended reals. -/
module

public import proofs.«01_k».proof.Proof.Chunk
public import proofs.«01_k».proof.Proof.TopLags
public import Idealize.ShloMosaic.Lib.Pointwise

@[expose] public section

set_option maxRecDepth 16384

noncomputable section

namespace Cert.Chunk

open Idealize.ShloMosaic Cert.KernelIdeal Cert.KernelIdeal.Gen

/-- The word of −∞. -/
theorem ofBits_bot : Ideal.ofBits .f32 0xFF800000#32 = ⊥ := by
  simp [Ideal.ofBits, Ideal.ieee]

/-- A window's entry `k` is the row's entry `o + k`. -/
theorem seg_apply (xr : FVec Ideal S1x2304 .f32) (o : ℕ) (ho : o ≤ 2047) (k : Fin 256) :
    seg xr o ho (ix2 0 k) = xr (ix2 0 ⟨o + k.val, by omega⟩) := by
  unfold seg
  pointwise

/-- The windows side by side, at an index. -/
theorem xrow_apply (xr : FVec Ideal S1x2304 .f32) (c : Fin 16) (g : Fin 4) (j : Fin 8192) :
    xrow xr c g (ix2 0 j) = xr (ix2 0 ⟨2047 - 128 * c.val - (4 * g.val + j.val / 256 / 8) - 16 * (j.val / 256 % 8) + j.val % 256, by omega⟩) := by
  unfold xrow
  refine (concatenate_ofFn_apply (s₁ := S1x256) (t := S1x8192) 1 _ _ rfl 256 rfl (ix2 0 j) ⟨j.val / 256, by omega⟩ rfl
    (ix2 0 ⟨j.val % 256, by omega⟩) rfl (fun b hb => by
      match b with
      | ⟨0, _⟩ => rfl
      | ⟨1, _⟩ => exact absurd rfl hb)).trans ?_
  exact seg_apply _ _ _ _

/-- The keys at an index. -/
theorem keys_apply (c84 : FVec Ideal S32x8192 .f32) (vw : FVec Ideal S32x1 .f32) (wk : FVec Ideal S32x32 .f32)
    (xr : FVec Ideal S1x2304 .f32) (c : Fin 16) (g : Fin 4) (d : Fin 32) (j : Fin 8192) :
    keys c84 vw wk xr c g (ix2 d j) = ∑ e : Fin 32, wk (ix2 d e) * (vw (ix2 e 0) * xrow xr c g (ix2 0 j) + c84 (ix2 e j)) := by
  unfold keys
  pointwise

/-- The eight query rows at an index. -/
theorem qrows_apply (q : FVec Ideal S2048x32 .f32) (c b : Fin 16) (s : Fin 8) (d : Fin 32) :
    qrows q c b (ix2 s d) = q (ix2 ⟨128 * c.val + b.val + 16 * s.val, by omega⟩ d) := by
  unfold qrows
  refine (concatenate_ofFn_apply (s₁ := S1x32) (t := S8x32) 0 _ _ rfl 1 rfl (ix2 s d) s (Nat.div_one _)
    (ix2 0 d) (Nat.mod_one _).symm (fun b hb => by
      match b with
      | ⟨0, _⟩ => exact absurd rfl hb
      | ⟨1, _⟩ => rfl)).trans ?_
  unfold qrow
  pointwise

/-- A row of logits at an index. -/
theorem row_apply (m8 : FVec Ideal S8x2048 .f32) (ks : FVec Ideal S32x8192 .f32) (q : FVec Ideal S2048x32 .f32) (c b : Fin 16)
    (i : Fin 4) (j : Fin 2048) :
    row m8 ks q c b i (ix2 0 j) = ∑ s : Fin 8, (∑ d : Fin 32, q (ix2 ⟨128 * c.val + b.val + 16 * s.val, by omega⟩ d)
      * ks (ix2 d ⟨2048 * i.val + j.val, by omega⟩)) * m8 (ix2 s j) := by
  unfold row keysOf
  pointwise
  simp only [qrows_apply]

/-- The turned stack at an index: lag `l` of the block's token `p`. -/
theorem turn_apply (r : Fin 16 → FVec Ideal S1x2048 .f32) (l : Fin 256) (p : Fin 128) :
    turn (stack r) (ix2 l p) = r ⟨p.val % 16, by omega⟩ (ix2 0 ⟨256 * (p.val / 16) + l.val, by omega⟩) := by
  unfold turn
  refine (concatenate_ofFn_apply (s₁ := S256x16) (t := S256x128) 1 _ _ rfl 16 rfl (ix2 l p) ⟨p.val / 16, by omega⟩ rfl
    (ix2 l ⟨p.val % 16, by omega⟩) rfl (fun b hb => by
      match b with
      | ⟨0, _⟩ => rfl
      | ⟨1, _⟩ => exact absurd rfl hb)).trans ?_
  unfold slab
  pointwise
  unfold stack
  refine (concatenate_ofFn_apply (s₁ := S1x2048) (t := S16x2048) 0 _ _ rfl 1 rfl _ ⟨p.val % 16, by omega⟩ (Nat.div_one _)
    (ix2 0 ⟨256 * (p.val / 16) + l.val, by omega⟩) (Nat.mod_one _).symm (fun b hb => by
      match b with
      | ⟨0, _⟩ => exact absurd rfl hb
      | ⟨1, _⟩ => rfl)).trans rfl

/-- The greatest entry of a column. -/
theorem peak_apply (x : FVec Ideal S256x128 .f32) (p : Fin 128) :
    peak x (ix2 0 p) = TopLags.top fun l => x (ix2 l p) := by
  unfold peak TopLags.top
  pointwise
  rw [ofBits_bot]

/-- The rounds on a column. -/
theorem drops_apply (x : FVec Ideal S256x128 .f32) (p : Fin 128) (l : Fin 256) (j : ℕ) :
    drops x j (ix2 l p) = TopLags.knock (fun l => x (ix2 l p)) j l := by
  induction j generalizing l with
  | zero => rfl
  | succ j ih =>
    unfold drops TopLags.knock drop
    pointwise
    simp only [peak_apply, ih]
    rw [ofBits_bot]

end Cert.Chunk

end
-- ==== Proof.HeadAt.lean ====
/- What the kernel's body computes once, read at an index, over the extended reals. -/
module

public import proofs.«01_k».proof.Proof.Head
public import proofs.«01_k».proof.Proof.ChunkAt

@[expose] public section

set_option maxRecDepth 16384

noncomputable section

namespace Cert.Head

open Idealize.ShloMosaic Cert.KernelIdeal Cert.KernelIdeal.Gen

variable (x : FVec Ideal S1x1x2304 .f32)

/-- A loaded row at an index. -/
theorem line_apply (j : Fin 2304) : line x (ix2 0 j) = x (ix3 0 0 j) := by
  unfold line
  pointwise

/-- Rounding does nothing to an extended real. -/
theorem rounded_apply (j : Fin 2304) : rounded x (ix2 0 j) = x (ix3 0 0 j) := by
  unfold rounded
  pointwise
  exact line_apply x j

/-- A tap at an index. -/
theorem tap_apply (cw : FVec Ideal S32x9 .f32) (k : ℕ) (hk : k ≤ 8) (c : Fin 32) (t : Fin 2048) :
    tap cw x k hk (ix2 c t) = cw (ix2 c ⟨k, by omega⟩) * x (ix3 0 0 ⟨248 + k + t.val, by omega⟩) := by
  unfold tap taps
  pointwise
  rw [rounded_apply]

/-- The convolution at an index. -/
theorem acc_apply (cw : FVec Ideal S32x9 .f32) (cb : FVec Ideal S32x1 .f32) (n : ℕ) (hn : n ≤ 9) (c : Fin 32) (t : Fin 2048) :
    acc cw cb x n hn (ix2 c t) = cb (ix2 c 0)
      + ∑ k : Fin n, cw (ix2 c ⟨k.val, by omega⟩) * x (ix3 0 0 ⟨248 + k.val + t.val, by omega⟩) := by
  induction n with
  | zero =>
    unfold acc
    pointwise
    simp
  | succ n ih =>
    unfold acc
    pointwise
    rw [ih, tap_apply, Fin.sum_univ_castSucc, add_assoc]
    rfl

/-- The context at an index. -/
theorem ctx_apply (cw : FVec Ideal S32x9 .f32) (cb : FVec Ideal S32x1 .f32) (pw : FVec Ideal S32x32 .f32) (pb : FVec Ideal S32x1 .f32)
    (d : Fin 32) (t : Fin 2048) :
    ctx x cw cb pw pb (ix2 d t) = (∑ c : Fin 32, pw (ix2 d c) * acc cw cb x 9 (Nat.le_refl 9) (ix2 c t)) + pb (ix2 d 0) := by
  unfold ctx
  pointwise

/-- The queries at an index. -/
theorem queries_apply (wq : FVec Ideal S32x32 .f32) (cx : FVec Ideal S32x2048 .f32) (t : Fin 2048) (d : Fin 32) :
    queries wq cx (ix2 t d) = ∑ e : Fin 32, wq (ix2 d e) * cx (ix2 e t) := by
  unfold queries
  pointwise

/-- The bias row at an index. -/
theorem bias_apply (bw : FVec Ideal S1x32 .f32) (bb : FVec Ideal S1x1 .f32) (cx : FVec Ideal S32x2048 .f32) (t : Fin 2048) :
    bias bw bb cx (ix2 0 t) = (∑ d : Fin 32, bw (ix2 0 d) * cx (ix2 d t)) + bb (ix2 0 0) := by
  unfold bias
  pointwise

/-- The padded row before its zeros. -/
theorem padded_apply (j : Fin 2304) : padded x (ix2 0 ⟨j.val, by omega⟩) = x (ix3 0 0 j) := by
  unfold padded
  refine (concatenate_pair_apply_left (t := S1x4096) (s₁ := S1x2304) 1 _ _ _ _ rfl (ix2 0 j) (fun b => by
    match b with
    | ⟨0, _⟩ => rfl
    | ⟨1, _⟩ => rfl)).trans ?_
  exact line_apply x j

/-- The shifted rows: lag `l` at token `t` is the entry `255 + t − l`. -/
theorem shifts_apply (l : Fin 256) (t : Fin 2048) :
    shifts x (ix2 l t) = x (ix3 0 0 ⟨255 + t.val - l.val, by omega⟩) := by
  rw [← padded_apply x ⟨255 + t.val - l.val, by omega⟩]
  unfold shifts
  pointwise
  exact congrArg (fun k => padded x (ix2 0 k)) (Fin.ext (by dsimp only; omega))

/-- A block's exponentials at an index. -/
theorem exps_apply (y : FVec Ideal S256x128 .f32) (v : FVec Ideal S1x128 .f32) (l : Fin 256) (p : Fin 128) :
    Chunk.exps y v (ix2 l p) = TopLags.shifted (fun l => y (ix2 l p)) (v (ix2 0 p)) l := by
  unfold Chunk.exps TopLags.shifted
  pointwise
  rw [Chunk.peak_apply]

/-- Each column over its sum. -/
theorem norm_apply (e : FVec Ideal S256x128 .f32) (l : Fin 256) (p : Fin 128) :
    Chunk.norm e (ix2 l p) = e (ix2 l p) * Ideal.div 1 (∑ l', e (ix2 l' p)) := by
  unfold Chunk.norm
  pointwise

/-- A block's weights at an index, where the seventeen greatest of the column are strict. -/
theorem wts_apply (y : FVec Ideal S256x128 .f32) (l : Fin 256) (p : Fin 128) (h : TopLags.Strict (fun l => y (ix2 l p)) 16) :
    Chunk.wts y (ix2 l p) = TopLags.weight (fun l => y (ix2 l p)) 15 l := by
  unfold Chunk.wts
  rw [norm_apply]
  simp only [exps_apply, Chunk.peak_apply, Chunk.drops_apply]
  exact TopLags.mul_inv_sum _ 15 h (by omega) l

/-- A block's part of the mean at an index. -/
theorem part_apply (w : FVec Ideal S256x128 .f32) (yt : FVec Ideal S256x2048 .f32) (n : Fin 16) (p : Fin 128) :
    Chunk.part w yt n (ix2 0 p) = ∑ l : Fin 256, w (ix2 l p) * yt (ix2 l ⟨128 * n.val + p.val, by omega⟩) := by
  unfold Chunk.part
  pointwise

/-- The stored block at an index. -/
theorem stored_apply (w : FVec Ideal S256x128 .f32) (p : Fin 128) (l : Fin 256) :
    Chunk.stored w (ix3 0 p l) = w (ix2 l p) := by
  unfold Chunk.stored
  pointwise

/-- The sixteen parts side by side, at an index. -/
theorem parts_apply (w : Fin 16 → FVec Ideal S256x128 .f32) (n : Fin 16) (p : Fin 128) :
    parts w x (ix2 0 ⟨128 * n.val + p.val, by omega⟩)
      = ∑ l : Fin 256, w n (ix2 l p) * x (ix3 0 0 ⟨255 + (128 * n.val + p.val) - l.val, by omega⟩) := by
  unfold parts
  refine (concatenate_ofFn_apply (s₁ := S1x128) (t := S1x2048) 1 _ _ rfl 128 rfl (ix2 0 ⟨128 * n.val + p.val, by omega⟩) n
    (show (128 * n.val + p.val) / 128 = n.val by omega)
    (ix2 0 p) (show p.val = (128 * n.val + p.val) % 128 by omega) (fun b hb => by
      match b with
      | ⟨0, _⟩ => rfl
      | ⟨1, _⟩ => exact absurd rfl hb)).trans ?_
  rw [part_apply]
  simp only [shifts_apply]

/-- The stored mean at an index. -/
theorem mean_apply (w : Fin 16 → FVec Ideal S256x128 .f32) (b : FVec Ideal S1x2048 .f32) (t : Fin 2048) :
    mean w x b (ix3 0 0 t) = parts w x (ix2 0 t) + b (ix2 0 t) := by
  unfold mean
  pointwise

end Cert.Head

end
-- ==== Proof.BlockAt.lean ====
/- The body's values at one grid point are the problem's: where the loaded values are the problem's arrays, the logits of a
   block, its weights and the mean are the specification's. -/
module

public import proofs.«01_k».proof.Proof.HeadAt
public import proofs.«01_k».proof.Proof.Spec

@[expose] public section

set_option maxRecDepth 16384

noncomputable section

namespace Cert.BlockAt

open Idealize.ShloMosaic Cert.KernelIdeal Cert.KernelIdeal.Gen

variable (a : Spec.Args) (b : Fin 4)

/-- The token at place `p` of block `n`. -/
def token (n : Fin 16) (p : Fin 128) : Fin 2048 := ⟨128 * n.val + p.val, by omega⟩

/-- The context. -/
theorem ctx_eq (x : FVec Ideal S1x1x2304 .f32) (hx : ∀ j : Fin 2304, x (ix3 0 0 j) = Spec.xf a b j.val)
    (cw : FVec Ideal S32x9 .f32) (hcw : ∀ d k, cw (ix2 d k) = a.cw d k) (cb : FVec Ideal S32x1 .f32) (hcb : ∀ d, cb (ix2 d 0) = a.cb d)
    (pw : FVec Ideal S32x32 .f32) (hpw : ∀ d e, pw (ix2 d e) = a.pw d e) (pb : FVec Ideal S32x1 .f32) (hpb : ∀ d, pb (ix2 d 0) = a.pb d)
    (d : Fin 32) (t : Fin 2048) : Head.ctx x cw cb pw pb (ix2 d t) = Spec.ctx a b t d := by
  rw [Head.ctx_apply, hpb]
  unfold Spec.ctx Spec.conv
  simp only [Head.acc_apply, hpw, hcw, hcb, hx]

/-- The keys of a block: the key of lag `l` at the token in sub-block `p % 16`, lane slab `p / 16`. -/
theorem key_eq (xr : FVec Ideal S1x1x2304 .f32) (hxr : ∀ j : Fin 2304, j.val < 2303 → xr (ix3 0 0 j) = Spec.xf a b (2302 - j.val))
    (c84 : FVec Ideal S32x8192 .f32) (hc : ∀ (e : Fin 32) (j : Fin 8192), c84 (ix2 e j) = a.le ⟨j.val % 256 + 1, by omega⟩ e + a.vb e)
    (vw : FVec Ideal S32x1 .f32) (hvw : ∀ e, vw (ix2 e 0) = a.vw e) (wk : FVec Ideal S32x32 .f32) (hwk : ∀ d e, wk (ix2 d e) = a.wk d e)
    (n : Fin 16) (p : Fin 128) (l : Fin 256) (d : Fin 32) :
    Chunk.keys c84 vw wk (Head.line xr) n ⟨p.val % 16 / 4, by omega⟩
      (ix2 d ⟨2048 * (p.val % 16 % 4) + (256 * (p.val / 16) + l.val), by omega⟩) = Spec.key a b (token n p) l d := by
  rw [Chunk.keys_apply]
  unfold Spec.key Spec.emb
  refine Finset.sum_congr rfl fun e _ => ?_
  rw [hwk, hvw, hc, Chunk.xrow_apply, Head.line_apply, hxr _ (by dsimp only; omega)]
  unfold Spec.past
  congr 3
  · congr 1
    dsimp only [token]
    omega
  · congr 2
    dsimp only
    omega

/-- The logits of a block. -/
theorem logit_eq (xr : FVec Ideal S1x1x2304 .f32) (hxr : ∀ j : Fin 2304, j.val < 2303 → xr (ix3 0 0 j) = Spec.xf a b (2302 - j.val))
    (c84 : FVec Ideal S32x8192 .f32) (hc : ∀ (e : Fin 32) (j : Fin 8192), c84 (ix2 e j) = a.le ⟨j.val % 256 + 1, by omega⟩ e + a.vb e)
    (m8 : FVec Ideal S8x2048 .f32) (hm : ∀ (s : Fin 8) (j : Fin 2048), m8 (ix2 s j) = if j.val / 256 = s.val then (1 : EReal) else 0)
    (vw : FVec Ideal S32x1 .f32) (hvw : ∀ e, vw (ix2 e 0) = a.vw e) (wk : FVec Ideal S32x32 .f32) (hwk : ∀ d e, wk (ix2 d e) = a.wk d e)
    (q : FVec Ideal S2048x32 .f32) (hq : ∀ t d, q (ix2 t d) = Spec.query a b t d)
    (n : Fin 16) (p : Fin 128) (l : Fin 256) :
    Chunk.lt c84 m8 vw wk (Head.line xr) q n (ix2 l p) = Spec.logit a b (token n p) l := by
  unfold Chunk.lt
  rw [Chunk.turn_apply, Chunk.row_apply, Finset.sum_eq_single (⟨p.val / 16, by omega⟩ : Fin 8)]
  · rw [hm, if_pos (by dsimp only; omega), mul_one]
    unfold Spec.logit
    refine Finset.sum_congr rfl fun d _ => ?_
    rw [hq, key_eq a b xr hxr c84 hc vw hvw wk hwk n p l d]
    congr 2
    apply Fin.ext
    dsimp only [token]
    omega
  · intro s _ hs
    rw [hm, if_neg, mul_zero]
    intro h
    apply hs
    apply Fin.ext
    dsimp only at h ⊢
    omega
  · intro h
    exact absurd (Finset.mem_univ _) h

/-- What the loaded values have to be: the problem's arrays. -/
structure Loaded (x xr : FVec Ideal S1x1x2304 .f32) (c84 : FVec Ideal S32x8192 .f32) (m8 : FVec Ideal S8x2048 .f32)
    (vw : FVec Ideal S32x1 .f32) (cw : FVec Ideal S32x9 .f32) (cb : FVec Ideal S32x1 .f32) (pw : FVec Ideal S32x32 .f32)
    (pb : FVec Ideal S32x1 .f32) (wq wk : FVec Ideal S32x32 .f32) : Prop where
  x : ∀ j : Fin 2304, x (ix3 0 0 j) = Spec.xf a b j.val
  xr : ∀ j : Fin 2304, j.val < 2303 → xr (ix3 0 0 j) = Spec.xf a b (2302 - j.val)
  c84 : ∀ (e : Fin 32) (j : Fin 8192), c84 (ix2 e j) = a.le ⟨j.val % 256 + 1, by omega⟩ e + a.vb e
  m8 : ∀ (s : Fin 8) (j : Fin 2048), m8 (ix2 s j) = if j.val / 256 = s.val then (1 : EReal) else 0
  vw : ∀ e, vw (ix2 e 0) = a.vw e
  cw : ∀ d k, cw (ix2 d k) = a.cw d k
  cb : ∀ d, cb (ix2 d 0) = a.cb d
  pw : ∀ d e, pw (ix2 d e) = a.pw d e
  pb : ∀ d, pb (ix2 d 0) = a.pb d
  wq : ∀ d e, wq (ix2 d e) = a.wq d e
  wk : ∀ d e, wk (ix2 d e) = a.wk d e

variable {a b} {x xr : FVec Ideal S1x1x2304 .f32} {c84 : FVec Ideal S32x8192 .f32} {m8 : FVec Ideal S8x2048 .f32}
  {vw : FVec Ideal S32x1 .f32} {cw : FVec Ideal S32x9 .f32} {cb : FVec Ideal S32x1 .f32} {pw : FVec Ideal S32x32 .f32}
  {pb : FVec Ideal S32x1 .f32} {wq wk : FVec Ideal S32x32 .f32}

/-- The weights of a block, where the seventeen greatest logits of the token are strict. -/
theorem weights_eq (h : Loaded a b x xr c84 m8 vw cw cb pw pb wq wk) (n : Fin 16) (p : Fin 128) (l : Fin 256)
    (hs : TopLags.Strict (Spec.logit a b (token n p)) 16) :
    Head.weights x xr c84 m8 vw cw cb pw pb wq wk n (ix2 l p) = Spec.weight a b (token n p) l := by
  unfold Head.weights Spec.weight
  have e : ∀ l, Chunk.lt (shapeCast S32x8192 c84 shapeCasts_S32x8192_S32x8192) (shapeCast S8x2048 m8 shapeCasts_S8x2048_S8x2048)
      vw wk (Head.line xr) (Head.queries wq (Head.ctx x cw cb pw pb)) n (ix2 l p) = Spec.logit a b (token n p) l := fun l =>
    logit_eq a b xr h.xr _ (fun e j => by rw [← h.c84]; pointwise) _ (fun s j => by rw [← h.m8]; pointwise) vw h.vw wk h.wk _
      (fun t d => by
        rw [Head.queries_apply]
        unfold Spec.query
        simp only [ctx_eq a b x h.x cw h.cw cb h.cb pw h.pw pb h.pb, h.wq]) n p l
  have e' := funext e
  rw [Head.wts_apply _ _ _ (by rw [e']; exact hs), e']

/-- The mean, where the seventeen greatest logits of every token are strict. -/
theorem mean_eq (h : Loaded a b x xr c84 m8 vw cw cb pw pb wq wk) (bw : FVec Ideal S1x32 .f32) (hbw : ∀ d, bw (ix2 0 d) = a.bw d)
    (bb : FVec Ideal S1x1 .f32) (hbb : bb (ix2 0 0) = a.bb) (n : Fin 16) (p : Fin 128)
    (hs : TopLags.Strict (Spec.logit a b (token n p)) 16) :
    Head.mean (fun n => Head.weights x xr c84 m8 vw cw cb pw pb wq wk n) x (Head.bias bw bb (Head.ctx x cw cb pw pb)) (ix3 0 0 (token n p))
      = Spec.mean a b (token n p) := by
  rw [Head.mean_apply, Head.bias_apply, hbb]
  unfold Spec.mean
  refine congrArg₂ (· + ·) ?_ (congrArg (· + a.bb) ?_)
  · unfold token
    rw [Head.parts_apply]
    refine Finset.sum_congr rfl fun l _ => ?_
    rw [weights_eq h n p l hs, h.x]
    rfl
  · simp only [hbw, ctx_eq a b x h.x cw h.cw cb h.cb pw h.pw pb h.pb]

end Cert.BlockAt

end
-- ==== Proof.Arrays.lean ====
/- What the kernel's run leaves in its two result arrays: the problem's weights and means, where the seventeen greatest logits of
   every token are strict. -/
module

public import proofs.«01_k».proof.Proof.Pieces
public import proofs.«01_k».proof.Proof.Blocks
public import proofs.«01_k».proof.Proof.BlockAt

@[expose] public section

set_option maxRecDepth 16384

noncomputable section

namespace Cert.Arrays

open Idealize.ShloMosaic Idealize.ShloMosaic.TcCoe Idealize.SL.Sem Cert.KernelIdeal Cert.KernelIdeal.Gen Cert.Blocks
open Idealize.ShloMosaic.Pipeline (Dat)

variable (m : (ℓ : Loc nD τ sig) → Buf (Elt Ideal) ℓ) (c : Dev nD) (t : Fin cfg0.N)

/-- The row that the body loads. -/
def bx : FVec Ideal S1x1x2304 .f32 :=
  View.ld (Val := Elt Ideal) (iblk m c 0 t) (Rect.unit (s := S1x1x2304) (k0_off1 (grid0.coords t)) S1x1x2304.size (k0_off1_inb _))

/-- The backwards row that the body loads. -/
def bxr : FVec Ideal S1x1x2304 .f32 :=
  View.ld (Val := Elt Ideal) (iblk m c 1 t) (Rect.unit (s := S1x1x2560) (k0_off2 (grid0.coords t)) S1x1x2304.size (k0_off2_inb _))

/-- The second grid coordinate is always zero. -/
theorem coord1 (i : grid0.Coords) : (i 1).val = 0 := Nat.lt_one_iff.mp (i 1).isLt

theorem bx_apply (j : Fin 2304) : bx m c t (ix3 0 0 j) = Spec.xf (args m c) (series t) j.val := by
  rw [← blk0]
  refine View.ld_unit_apply_of (Val := Elt Ideal) (iblk m c 0 t) _ _ _ _ (ix3 0 0 j) fun a => ?_
  have e : ∀ a, k0_off1 (grid0.coords t) a = (![0, 0, 0] : Fin 3 → ℕ) a := congrFun (by rw [k0_off1_eq, coord1])
  match a with
  | ⟨0, _⟩ => exact (congrArg (· + 0) (e 0)).symm
  | ⟨1, _⟩ => exact (congrArg (· + 0) (e 1)).symm
  | ⟨2, _⟩ => exact ((congrArg (· + j.val) (e 2)).trans (Nat.zero_add j.val)).symm

theorem bxr_apply (j : Fin 2304) (hj : j.val < 2303) : bxr m c t (ix3 0 0 j) = Spec.xf (args m c) (series t) (2302 - j.val) := by
  have h := blk1 m c t ⟨256 + j.val, by omega⟩ (by dsimp only; omega) (by dsimp only; omega)
  have e : 2558 - (256 + j.val) = 2302 - j.val := by omega
  dsimp only at h
  rw [e] at h
  rw [← h]
  refine View.ld_unit_apply_of (Val := Elt Ideal) (iblk m c 1 t) _ _ _ _ (ix3 0 0 ⟨256 + j.val, by omega⟩) fun a => ?_
  have e : ∀ a, k0_off2 (grid0.coords t) a = (![0, 0, 256] : Fin 3 → ℕ) a := congrFun (by rw [k0_off2_eq, coord1])
  match a with
  | ⟨0, _⟩ => exact (congrArg (· + 0) (e 0)).symm
  | ⟨1, _⟩ => exact (congrArg (· + 0) (e 1)).symm
  | ⟨2, _⟩ => exact (congrArg (· + j.val) (e 2)).symm

/-- The loaded values are the problem's arrays. -/
theorem loaded : BlockAt.Loaded (args m c) (series t) (bx m c t) (bxr m c t) (iblk m c 2 t) (iblk m c 3 t) (iblk m c 4 t) (iblk m c 5 t) (iblk m c 6 t) (iblk m c 7 t) (iblk m c 8 t) (iblk m c 9 t) (iblk m c 10 t) :=
  ⟨bx_apply m c t, bxr_apply m c t, blk2 m c t, blk3 m c t, blk4 m c t, blk5 m c t, blk6 m c t, blk7 m c t, blk8 m c t, blk9 m c t,
    blk10 m c t⟩

/-- The weights of block `n` at grid point `t`. -/
def wts (n : Fin 16) : FVec Ideal S256x128 .f32 :=
  Head.weights (bx m c t) (bxr m c t) (iblk m c 2 t) (iblk m c 3 t) (iblk m c 4 t) (iblk m c 5 t) (iblk m c 6 t) (iblk m c 7 t) (iblk m c 8 t) (iblk m c 9 t) (iblk m c 10 t) n

/-- The stored rows of a block lie inside the buffer. -/
theorem inb14 (n : Fin 16) : ∀ a, (![0, 128 * (15 - n.val), 0] : Fin 3 → ℕ) a + S1x128x256.size a ≤ S1x2048x256.size a := fun a => by
  match a with
  | ⟨0, _⟩ => exact Nat.le_refl 1
  | ⟨1, _⟩ => exact (by omega : 128 * (15 - n.val) + 128 ≤ 2048)
  | ⟨2, _⟩ => exact Nat.le_refl 256

/-- A token's row is in the store of its block. -/
theorem at14 (n : Fin 16) (p : Fin 128) (l : Fin 256) : ∃ k : Fin 16, ∀ a : Fin 3,
    (![0, 128 * (15 - k.val), 0] : Fin 3 → ℕ) a ≤ (ix3 (n0 := 1) 0 (BlockAt.token n p) l a).val
      ∧ (ix3 (n0 := 1) 0 (BlockAt.token n p) l a).val < (![0, 128 * (15 - k.val), 0] : Fin 3 → ℕ) a + S1x128x256.size a :=
  ⟨⟨15 - n.val, by omega⟩, fun a => by
    match a with
    | ⟨0, _⟩ => exact ⟨Nat.le_refl 0, Nat.one_pos⟩
    | ⟨1, _⟩ => exact (by omega : 128 * (15 - (15 - n.val)) ≤ 128 * n.val + p.val ∧ 128 * n.val + p.val < 128 * (15 - (15 - n.val)) + 128)
    | ⟨2, _⟩ => exact (by omega : 0 ≤ l.val ∧ l.val < 0 + 256)⟩

/-- What a grid point leaves in the weights' buffer. -/
theorem outs14 : (outsAt0 m c t).2 = View.canon (Val := Elt Ideal) (List.ofFn fun n : Fin 16 =>
    (⟨Rect.unit ![0, 128 * (15 - n.val), 0] S1x128x256.size (inb14 n), Chunk.stored (wts m c t ⟨15 - n.val, by omega⟩)⟩ : View.Piece (Elt Ideal) S1x2048x256 .f32)) := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ _ _ _ _ _ )]
  rw [Pieces.stores14]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp only [View.ld_unit_lit (S := S32x8192) _ _ (by decide : ∀ a, (![0, 0] : Fin 2 → ℕ) a = 0), View.ld_unit_lit (S := S8x2048) _ _ (by decide : ∀ a, (![0, 0] : Fin 2 → ℕ) a = 0), View.ld_unit_lit (S := S32x1) _ _ (by decide : ∀ a, (![0, 0] : Fin 2 → ℕ) a = 0), View.ld_unit_lit (S := S32x9) _ _ (by decide : ∀ a, (![0, 0] : Fin 2 → ℕ) a = 0), View.ld_unit_lit (S := S32x32) _ _ (by decide : ∀ a, (![0, 0] : Fin 2 → ℕ) a = 0)]
  rfl

/-- What a grid point leaves in the mean's buffer. -/
theorem outs13 : (outsAt0 m c t).1 = Head.mean (fun n => wts m c t n) (bx m c t) (Head.bias (iblk m c 11 t) (iblk m c 12 t)
    (Head.ctx (bx m c t) (iblk m c 5 t) (iblk m c 6 t) (iblk m c 7 t) (iblk m c 8 t))) := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ _ _ _ _ _ _ _ )]
  rw [Pieces.stores13]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp only [View.ld_unit_lit (S := S32x8192) _ _ (by decide : ∀ a, (![0, 0] : Fin 2 → ℕ) a = 0), View.ld_unit_lit (S := S8x2048) _ _ (by decide : ∀ a, (![0, 0] : Fin 2 → ℕ) a = 0), View.ld_unit_lit (S := S32x1) _ _ (by decide : ∀ a, (![0, 0] : Fin 2 → ℕ) a = 0), View.ld_unit_lit (S := S32x9) _ _ (by decide : ∀ a, (![0, 0] : Fin 2 → ℕ) a = 0), View.ld_unit_lit (S := S32x32) _ _ (by decide : ∀ a, (![0, 0] : Fin 2 → ℕ) a = 0), View.ld_unit_lit (S := S1x32) _ _ (by decide : ∀ a, (![0, 0] : Fin 2 → ℕ) a = 0), View.ld_unit_lit (S := S1x1) _ _ (by decide : ∀ a, (![0, 0] : Fin 2 → ℕ) a = 0)]
  exact View.canon_cons_unit_lit (Val := Elt Ideal) (S := S1x1x2048) _ _ [] (by decide)

/-- The weights a grid point leaves, at an index. -/
theorem outs14_apply (n : Fin 16) (p : Fin 128) (l : Fin 256) (hs : TopLags.Strict (Spec.logit (args m c) (series t) (BlockAt.token n p)) 16) :
    (outsAt0 m c t).2 (ix3 0 (BlockAt.token n p) l) = Spec.weight (args m c) (series t) (BlockAt.token n p) l := by
  rw [outs14]
  refine View.canon_ofFn_unit_eq_of_forall (Val := Elt Ideal) (S := S1x2048x256) (e := .f32) (fun n : Fin 16 => ![0, 128 * (15 - n.val), 0])
    S1x128x256.size inb14 (fun n : Fin 16 => Chunk.stored (wts m c t ⟨15 - n.val, by omega⟩)) (ix3 0 (BlockAt.token n p) l) _
    (at14 n p l) fun k x hx => ?_
  have h1 : 128 * n.val + p.val = 128 * (15 - k.val) + (x 1).val := hx 1
  have h2 : l.val = 0 + (x 2).val := hx 2
  have hp : (x 1).val < 128 := (x 1).isLt
  have ek : (⟨15 - k.val, by omega⟩ : Fin 16) = n := Fin.ext (by dsimp only; omega)
  have ex : x = ix3 0 p l := by
    funext a
    match a with
    | ⟨0, _⟩ => exact Subsingleton.elim (α := Fin 1) _ _
    | ⟨1, _⟩ => exact Fin.ext (by show (x 1).val = p.val; omega)
    | ⟨2, _⟩ => exact Fin.ext (by show (x 2).val = l.val; omega)
  rw [ex, ek]
  refine (Head.stored_apply _ p l).trans ?_
  exact BlockAt.weights_eq (loaded m c t) n p l hs

/-- The means a grid point leaves, at an index. -/
theorem outs13_apply (n : Fin 16) (p : Fin 128) (hs : TopLags.Strict (Spec.logit (args m c) (series t) (BlockAt.token n p)) 16) :
    (outsAt0 m c t).1 (ix3 0 0 (BlockAt.token n p)) = Spec.mean (args m c) (series t) (BlockAt.token n p) := by
  rw [outs13]
  exact BlockAt.mean_eq (loaded m c t) _ (blk11 m c t) _ (blk12 m c t) n p hs

/-- Every token is at a place of a block. -/
theorem exists_token (s : Fin 2048) : ∃ n p, s = BlockAt.token n p :=
  ⟨⟨s.val / 128, by omega⟩, ⟨s.val % 128, by omega⟩, Fin.ext (by unfold BlockAt.token; dsimp only; omega)⟩

theorem index13 : ∀ t : Fin cfg0.N, win0_13.index t = ![t.val, 0, 0] :=
  (by decide +kernel : ∀ t : Fin grid0.N, win0_13.index t = ![t.val, 0, 0])

theorem index14 : ∀ t : Fin cfg0.N, win0_14.index t = ![t.val, 0, 0] :=
  (by decide +kernel : ∀ t : Fin grid0.N, win0_14.index t = ![t.val, 0, 0])

/-- The array of weights after the run. -/
theorem weights (hs : ∀ b s, TopLags.Strict (Spec.logit (args m c) b s) 16) :
    (dats m 0 c).arrAt 14 cfg0.N = fun i => Spec.weight (args m c) (i 0) (i 1) (i 2) := by
  refine (dats m 0 c).arrAt_eq_of_covers 14 _ (by decide +kernel) fun t hf y => ?_
  blk_simp
  rw [after0_14]
  have e0 : (win0_14.blk t).view.emb y 0 = series t := Fin.ext (by
    blk_simp [index14 t]
    rfl)
  have e1 : (win0_14.blk t).view.emb y 1 = y 1 := Fin.ext (by blk_simp [index14 t])
  have e2 : (win0_14.blk t).view.emb y 2 = y 2 := Fin.ext (by blk_simp [index14 t])
  rw [e0, e1, e2]
  obtain ⟨n, p, hp⟩ := exists_token (y 1)
  have ey : y = ix3 0 (BlockAt.token n p) (y 2) := by
    funext a
    match a with
    | ⟨0, _⟩ => exact Subsingleton.elim (α := Fin 1) _ _
    | ⟨1, _⟩ => exact hp
    | ⟨2, _⟩ => rfl
  rw [hp]
  exact (congrArg (outsAt0 m c t).2 ey).trans (outs14_apply m c t n p (y 2) (hs _ _))

/-- The array of means after the run. -/
theorem means (hs : ∀ b s, TopLags.Strict (Spec.logit (args m c) b s) 16) :
    (dats m 0 c).arrAt 13 cfg0.N = fun i => Spec.mean (args m c) (i 0) (i 2) := by
  refine (dats m 0 c).arrAt_eq_of_covers 13 _ (by decide +kernel) fun t hf y => ?_
  blk_simp
  rw [after0_13]
  have e0 : (win0_13.blk t).view.emb y 0 = series t := Fin.ext (by
    blk_simp [index13 t]
    rfl)
  have e2 : (win0_13.blk t).view.emb y 2 = y 2 := Fin.ext (by blk_simp [index13 t])
  rw [e0, e2]
  obtain ⟨n, p, hp⟩ := exists_token (y 2)
  have ey : y = ix3 0 0 (BlockAt.token n p) := by
    funext a
    match a with
    | ⟨0, _⟩ => exact Subsingleton.elim (α := Fin 1) _ _
    | ⟨1, _⟩ => exact Subsingleton.elim (α := Fin 1) _ _
    | ⟨2, _⟩ => exact hp
  rw [hp]
  exact (congrArg (outsAt0 m c t).1 ey).trans (outs13_apply m c t n p (hs _ _))

end Cert.Arrays

end
-- ==== Proof.RefTop.lean ====
/- The reference's two results read at an index: the mask from the sixteen greatest logits, the softmax over them, and the mean. -/
module

public import proofs.«01_k».proof.Proof.RefLags
public import proofs.«01_k».proof.Proof.TopK
public import proofs.«01_k».proof.Proof.Words

@[expose] public section

set_option maxRecDepth 16384

noncomputable section

namespace Cert.RefTop

open Idealize.ShloMosaic Cert.ReferenceIdeal Cert.ReferenceIdeal.Gen Cert.ReferenceIdeal.Read Cert.RefLags

variable (x0 : (⟨S4x2048, .f32⟩ : BufTy).Contents (Elt Ideal)) (x1 : (⟨S257x32, .f32⟩ : BufTy).Contents (Elt Ideal))
  (x2 : (⟨S32x1, .f32⟩ : BufTy).Contents (Elt Ideal)) (x3 : (⟨S32, .f32⟩ : BufTy).Contents (Elt Ideal))
  (x4 : (⟨S32x1x9, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 x9 : (⟨S32x32, .f32⟩ : BufTy).Contents (Elt Ideal)) (x10 : (⟨S1x32, .f32⟩ : BufTy).Contents (Elt Ideal))
  (x11 : (⟨S1, .f32⟩ : BufTy).Contents (Elt Ideal))

/-- The `i`-th index of the `top_k` is the position of the `i`-th greatest logit. -/
theorem indices (b : Fin 4) (t : Fin 2048) (i : Fin 16) :
    val_main_indices x0 x1 x2 x3 x4 x5 x6 x7 x8 x9 (ix3 b t i)
      = BitVec.ofNat 32 (TopLags.rank (Spec.logit (args x0 x1 x2 x3 x4 x5 x6 x7 x8 x9 x10 x11) b t) ⟨i.val, by omega⟩).val := by
  rw [val_main_indices]
  refine (TopLags.topK_indices _ _ b t i (by omega)).trans ?_
  simp only [logit x0 x1 x2 x3 x4 x5 x6 x7 x8 x9 x10 x11]

/-- A sum of indicators is positive exactly if one of them holds. -/
theorem sum_indicator_pos {n : ℕ} (p : Fin n → Prop) [∀ i, Decidable (p i)] :
    (0 : EReal) < ∑ i, (if p i then (1 : EReal) else 0) ↔ ∃ i, p i := by
  constructor
  · intro h
    by_contra hn
    push Not at hn
    rw [Finset.sum_eq_zero (fun i _ => if_neg (hn i))] at h
    exact lt_irrefl _ h
  · rintro ⟨i, hi⟩
    have := Finset.single_le_sum (f := fun i => if p i then (1 : EReal) else 0) (fun j _ => by split <;> simp) (Finset.mem_univ i)
    rw [if_pos hi] at this
    exact lt_of_lt_of_le zero_lt_one this

/-- An indicator of equal positions, as the number it is converted to. -/
theorem indicator (p l : Fin 256) :
    FloatOps.uitofp (F := Ideal) FTy.f32 (IntOp.cmpi .eq (BitVec.ofNat 32 p.val) (BitVec.ofNat 32 l.val)) = if p = l then 1 else 0 := by
  rw [Words.indicator _ _ (by omega) (by omega)]
  exact if_congr Fin.ext_iff.symm rfl rfl

/-- The masked logits. -/
theorem masked (b : Fin 4) (t : Fin 2048) (l : Fin 256) :
    val_main_v131 x0 x1 x2 x3 x4 x5 x6 x7 x8 x9 (ix3 b t l)
      = if ∃ i : Fin 16, TopLags.rank (Spec.logit (args x0 x1 x2 x3 x4 x5 x6 x7 x8 x9 x10 x11) b t) ⟨i.val, by omega⟩ = l then Spec.logit (args x0 x1 x2 x3 x4 x5 x6 x7 x8 x9 x10 x11) b t l else ⊥ := by
  pointwise [val_main_v131, val_main_call1_v1, val_main_call1_v0, val_main_cst_6, val_main_v130, val_main_v129, val_main_cst_5,
    val_main_v128, val_main_cst_4, val_main_v127, val_main_call0_v4, val_main_call0_v3, val_main_call0_v2, val_main_call0_v1, val_main_call0_v0]
  simp only [indices x0 x1 x2 x3 x4 x5 x6 x7 x8 x9 x10 x11, logit x0 x1 x2 x3 x4 x5 x6 x7 x8 x9 x10 x11, indicator, sum_indicator_pos]
  rw [show id (constant S_ FTy.f32 4286578688#32) ix0 = Ideal.ofBits FTy.f32 4286578688#32 from rfl,
    show Ideal.ofBits FTy.f32 4286578688#32 = ⊥ by simp [Ideal.ofBits, Ideal.ieee]]

/-- The weights, where the seventeen greatest logits of the token are strict. -/
theorem weights (b : Fin 4) (t : Fin 2048) (l : Fin 256) (h : TopLags.Strict (Spec.logit (args x0 x1 x2 x3 x4 x5 x6 x7 x8 x9 x10 x11) b t) 16) :
    val_main_v142 x0 x1 x2 x3 x4 x5 x6 x7 x8 x9 (ix3 b t l) = Spec.weight (args x0 x1 x2 x3 x4 x5 x6 x7 x8 x9 x10 x11) b t l := by
  have hm := masked x0 x1 x2 x3 x4 x5 x6 x7 x8 x9 x10 x11 b t
  unfold val_main_v142 val_main_v141 val_main_v140 val_main_v139 val_main_v138 val_main_v137 val_main_v136 val_main_v135
    val_main_v134 val_main_v132
  generalize val_main_v131 x0 x1 x2 x3 x4 x5 x6 x7 x8 x9 = y at hm ⊢
  pointwise [val_main_cst_9, val_main_v133, val_main_cst_8, val_main_cst_7]
  rw [show Ideal.ofBits FTy.f32 4286578688#32 = ⊥ by simp [Ideal.ofBits, Ideal.ieee]]
  rw [max_eq_right bot_le]
  refine TopLags.softmax_masked (Spec.logit (args x0 x1 x2 x3 x4 x5 x6 x7 x8 x9 x10 x11) b t) 15 h (by omega) (fun l => y (ix3 b t l)) (fun l => ?_) l
  rw [hm l]
  refine if_congr (Iff.trans ?_ (TopLags.kept_iff _ 15 h (by omega) l).symm) rfl rfl
  exact ⟨fun ⟨i, hi⟩ => ⟨⟨i.val, by omega⟩, i.isLt, hi⟩, fun ⟨i, hi, e⟩ => ⟨⟨i.val, hi⟩, e⟩⟩

/-- The mean, where the seventeen greatest logits of the token are strict. -/
theorem mean (b : Fin 4) (t : Fin 2048) (h : TopLags.Strict (Spec.logit (args x0 x1 x2 x3 x4 x5 x6 x7 x8 x9 x10 x11) b t) 16) :
    val_main_v152 x0 x1 x2 x3 x4 x5 x6 x7 x8 x9 x10 x11 (ix3 b 0 t) = Spec.mean (args x0 x1 x2 x3 x4 x5 x6 x7 x8 x9 x10 x11) b t := by
  have hw := fun l => weights x0 x1 x2 x3 x4 x5 x6 x7 x8 x9 x10 x11 b t l h
  unfold val_main_v152 val_main_v151 val_main_v144 val_main_v143
  generalize val_main_v142 x0 x1 x2 x3 x4 x5 x6 x7 x8 x9 = y at hw ⊢
  pointwise [val_main_v150, val_main_v149, val_main_v148, val_main_v147, val_main_v146, val_main_v145, val_main_cst_10]
  simp only [hw, past x0 x1 x2 x3 x4 x5 x6 x7 x8 x9 x10 x11, ctx x0 x1 x2 x3 x4 x5 x6 x7 x8 x9 x10 x11]
  unfold Spec.mean
  refine congrArg (_ + ·) (congrArg (· + _) (Finset.sum_congr rfl fun d _ => ?_))
  exact mul_comm _ _

end Cert.RefTop

end
-- ==== Proof.Claims.lean ====
/- The claims: the runs and their frames, and the agreement of the kernel's two results with the reference's. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Arrays
public import proofs.«01_k».proof.Proof.RefTop
public import proofs.«01_k».proof.Proof.PreTop
public import Idealize.ShloMosaic.Adequacy
public import Idealize.ShloMosaic.Init

@[expose] public section

noncomputable section

namespace Cert.Claims

open Idealize.ShloMosaic Idealize.ShloMosaic.TcCoe Idealize.SL.Sem

/-- The kernel runs and leaves its arguments. -/
theorem kernel : Cert.quiescent_Kernel := fun m g _ => Cert.Kernel.Gen.frame m g

/-- The idealized kernel runs and leaves its arguments. -/
theorem kernelIdeal : Cert.quiescent_KernelIdeal := fun m g _ => Cert.KernelIdeal.Gen.frame m g

/-- The same, under the precondition. -/
theorem kernelIdealPre : Cert.quiescent_KernelIdeal_pre_top_is_strict := fun m g _ => Cert.KernelIdeal.Gen.frame m g

/-- The reference runs and leaves its arguments. -/
theorem referenceIdeal : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The same, under the precondition. -/
theorem referenceIdealPre : Cert.quiescent_ReferenceIdeal_pre_top_is_strict := fun m g _ => referenceIdeal m g trivial

/-- Where the precondition holds, the seventeen greatest logits of every token are strict. -/
theorem strict (m : (ℓ : Loc Cert.KernelIdeal.nD Cert.KernelIdeal.τ Cert.KernelIdeal.sig) → Buf (Elt Ideal) ℓ)
    (h : Cert.Pre_KernelIdeal_top_is_strict m) (c : Dev Cert.KernelIdeal.nD) (b : Fin 4) (t : Fin 2048) :
    TopLags.Strict (Spec.logit (Blocks.args m c) b t) 16 :=
  PreTop.strict _ _ _ _ _ _ _ _ _ _ _ _ (h c) b t

section Reference

open Cert.ReferenceIdeal Cert.ReferenceIdeal.Gen Cert.ReferenceIdeal.Read

variable (x0 : (⟨S4x2048, .f32⟩ : BufTy).Contents (Elt Ideal)) (x1 : (⟨S257x32, .f32⟩ : BufTy).Contents (Elt Ideal))
  (x2 : (⟨S32x1, .f32⟩ : BufTy).Contents (Elt Ideal)) (x3 : (⟨S32, .f32⟩ : BufTy).Contents (Elt Ideal))
  (x4 : (⟨S32x1x9, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 x9 : (⟨S32x32, .f32⟩ : BufTy).Contents (Elt Ideal)) (x10 : (⟨S1x32, .f32⟩ : BufTy).Contents (Elt Ideal))
  (x11 : (⟨S1, .f32⟩ : BufTy).Contents (Elt Ideal))

/-- The reference's means, as one array. -/
theorem refMeans (h : ∀ b t, TopLags.Strict (Spec.logit (RefLags.args x0 x1 x2 x3 x4 x5 x6 x7 x8 x9 x10 x11) b t) 16) :
    val_main_v152 x0 x1 x2 x3 x4 x5 x6 x7 x8 x9 x10 x11 = fun i => Spec.mean (RefLags.args x0 x1 x2 x3 x4 x5 x6 x7 x8 x9 x10 x11) (i 0) (i 2) := by
  funext i
  have e : ix3 (i 0) (0 : Fin 1) (i 2) = i := by
    funext a
    match a with
    | ⟨0, _⟩ => rfl
    | ⟨1, _⟩ => exact Subsingleton.elim (α := Fin 1) _ _
    | ⟨2, _⟩ => rfl
  exact (congrArg _ e).symm.trans (RefTop.mean x0 x1 x2 x3 x4 x5 x6 x7 x8 x9 x10 x11 (i 0) (i 2) (h (i 0) (i 2)))

/-- The reference's weights, as one array. -/
theorem refWeights (h : ∀ b t, TopLags.Strict (Spec.logit (RefLags.args x0 x1 x2 x3 x4 x5 x6 x7 x8 x9 x10 x11) b t) 16) :
    val_main_v142 x0 x1 x2 x3 x4 x5 x6 x7 x8 x9 = fun i => Spec.weight (RefLags.args x0 x1 x2 x3 x4 x5 x6 x7 x8 x9 x10 x11) (i 0) (i 1) (i 2) := by
  funext i
  have e : ix3 (i 0) (i 1) (i 2) = i := by
    funext a
    match a with
    | ⟨0, _⟩ => rfl
    | ⟨1, _⟩ => rfl
    | ⟨2, _⟩ => rfl
  exact (congrArg _ e).symm.trans (RefTop.weights x0 x1 x2 x3 x4 x5 x6 x7 x8 x9 x10 x11 (i 0) (i 1) (i 2) (h (i 0) (i 1)))

end Reference

/-- The kernel's results are the reference's, in exact arithmetic, where the precondition holds. -/
theorem algebraic : Cert.algebraic_KernelIdeal_ReferenceIdeal_pre_top_is_strict := by
  intro m g m' g' hpre hagree
  refine ⟨fun c => (Cert.KernelIdeal.Gen.dats m 0 c).arrAt 13 Cert.KernelIdeal.cfg0.N,
    fun c => (Cert.KernelIdeal.Gen.dats m 0 c).arrAt 14 Cert.KernelIdeal.cfg0.N, Cert.KernelIdeal.Value.run_blocks m g, ?_⟩
  refine (θ_run Cert.ReferenceIdeal.defs _ _).mono (fun _ h c => ⟨(h c).1.trans ?_, (h c).2.1.trans ?_, (h c).2.2⟩)
    (Cert.ReferenceIdeal.Value.run (F := Ideal) m' g')
  · obtain ⟨h0, h1, h2, h3, h4, h5, h6, h7, h8, h9, h10, h11⟩ := hagree c
    rw [Cert.ReferenceIdeal.Read.val_main_v152_eq, h0, h1, h2, h3, h4, h5, h6, h7, h8, h9, h10, h11]
    exact (refMeans _ _ _ _ _ _ _ _ _ _ _ _ (strict m hpre c)).trans (Arrays.means m c (strict m hpre c)).symm
  · obtain ⟨h0, h1, h2, h3, h4, h5, h6, h7, h8, h9, h10, h11⟩ := hagree c
    rw [Cert.ReferenceIdeal.Read.val_main_v142_eq, h0, h1, h2, h3, h4, h5, h6, h7, h8, h9]
    exact (refWeights _ _ _ _ _ _ _ _ _ _ (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (strict m hpre c)).trans
      (Arrays.weights m c (strict m hpre c)).symm

end Cert.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.PreTop
public import proofs.«01_k».proof.Proof.Claims

@[expose] public section

noncomputable section

namespace Cert.Proof

/-- Every claim holds. -/
theorem claim : Cert.Claim :=
  ⟨Cert.Kernel.Gen.facts, Cert.KernelIdeal.Gen.facts, Cert.ReferenceIdeal.Gen.facts, Cert.PreTop.facts,
    Claims.kernel, Claims.kernelIdeal, Claims.kernelIdealPre, Claims.referenceIdeal, Claims.referenceIdealPre, trivial, Claims.algebraic⟩

end Cert.Proof

end
